-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v222) = v0 c
          ∧ r.2.mem ((c.tc : Thread Cert.ReferenceIdeal.nD Cert.ReferenceIdeal.τ).loc Cert.ReferenceIdeal.main_v223) = v1 c
          ∧ r.2.mem ((c.tc : Thread Cert.ReferenceIdeal.nD Cert.ReferenceIdeal.τ).loc Cert.ReferenceIdeal.main_v224) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S5x1x6144 : Shape := ⟨3, ![5, 1, 6144]⟩
abbrev S2x32768x768 : Shape := ⟨3, ![2, 32768, 768]⟩
abbrev S32768x48 : Shape := ⟨2, ![32768, 48]⟩
abbrev S5x6144 : Shape := ⟨2, ![5, 6144]⟩
abbrev S48x32768 : Shape := ⟨2, ![48, 32768]⟩
abbrev S5x32768 : Shape := ⟨2, ![5, 32768]⟩
abbrev S5x8x1536 : Shape := ⟨3, ![5, 8, 1536]⟩
abbrev S5x1x48 : Shape := ⟨3, ![5, 1, 48]⟩
abbrev S2x1024x768 : Shape := ⟨3, ![2, 1024, 768]⟩
abbrev S48x1024 : Shape := ⟨2, ![48, 1024]⟩
abbrev S5x1024 : Shape := ⟨2, ![5, 1024]⟩
abbrev S24x32x256 : Shape := ⟨3, ![24, 32, 256]⟩
abbrev S24x16x256 : Shape := ⟨3, ![24, 16, 256]⟩
abbrev S48x8x128 : Shape := ⟨3, ![48, 8, 128]⟩
abbrev S8x8x1536 : Shape := ⟨3, ![8, 8, 1536]⟩
abbrev S8x128 : Shape := ⟨2, ![8, 128]⟩
abbrev S3x6144 : Shape := ⟨2, ![3, 6144]⟩
abbrev S8x6144 : Shape := ⟨2, ![8, 6144]⟩
abbrev S8x512 : Shape := ⟨2, ![8, 512]⟩
abbrev S96x512 : Shape := ⟨2, ![96, 512]⟩
abbrev S512x512 : Shape := ⟨2, ![512, 512]⟩
abbrev S8x1x128 : Shape := ⟨3, ![8, 1, 128]⟩
abbrev S8x128x1 : Shape := ⟨3, ![8, 128, 1]⟩
abbrev S1x8x128 : Shape := ⟨3, ![1, 8, 128]⟩
abbrev S32x128 : Shape := ⟨2, ![32, 128]⟩
abbrev S1x32x128 : Shape := ⟨3, ![1, 32, 128]⟩
abbrev S16x128 : Shape := ⟨2, ![16, 128]⟩
abbrev S1x16x128 : Shape := ⟨3, ![1, 16, 128]⟩
abbrev S1x8x1536 : Shape := ⟨3, ![1, 8, 1536]⟩
abbrev S8x1536 : Shape := ⟨2, ![8, 1536]⟩
abbrev S5x48 : Shape := ⟨2, ![5, 48]⟩
abbrev S8x1024 : Shape := ⟨2, ![8, 1024]⟩
abbrev S1x1024x128 : Shape := ⟨3, ![1, 1024, 128]⟩
abbrev S1024x128 : Shape := ⟨2, ![1024, 128]⟩
abbrev S128x1024 : Shape := ⟨2, ![128, 1024]⟩
abbrev S32x1024 : Shape := ⟨2, ![32, 1024]⟩
abbrev S256x1024 : Shape := ⟨2, ![256, 1024]⟩
abbrev S1x32x256 : Shape := ⟨3, ![1, 32, 256]⟩
abbrev S32x256 : Shape := ⟨2, ![32, 256]⟩
abbrev S1x16x256 : Shape := ⟨3, ![1, 16, 256]⟩
abbrev S16x256 : Shape := ⟨2, ![16, 256]⟩
abbrev S16x1024 : Shape := ⟨2, ![16, 1024]⟩
abbrev S1x1024 : Shape := ⟨2, ![1, 1024]⟩

abbrev nBuf : Space → Nat
  | .hbm => 10
  | .vmem => 16
  | .smem => 0
  | _ => 0

abbrev bufTy : (tb : Table) → Fin (tcTables nBuf tb) → BufTy
  | .hbm, ⟨0, _⟩ => ⟨S5x1x6144, .bf16⟩
  | .hbm, ⟨1, _⟩ => ⟨S2x32768x768, .i8⟩
  | .hbm, ⟨2, _⟩ => ⟨S32768x48, .f32⟩
  | .hbm, ⟨3, _⟩ => ⟨S32768x48, .f32⟩
  | .hbm, ⟨4, _⟩ => ⟨S5x6144, .bf16⟩
  | .hbm, ⟨5, _⟩ => ⟨S48x32768, .f32⟩
  | .hbm, ⟨6, _⟩ => ⟨S48x32768, .f32⟩
  | .hbm, ⟨7, _⟩ => ⟨S5x32768, .bf16⟩
  | .hbm, ⟨8, _⟩ => ⟨S5x8x1536, .i8⟩
  | .hbm, ⟨9, _⟩ => ⟨S5x1x48, .f32⟩
  | .local _ .vmem, ⟨0, _⟩ => ⟨S5x6144, .bf16⟩
  | .local _ .vmem, ⟨1, _⟩ => ⟨S2x1024x768, .i8⟩
  | .local _ .vmem, ⟨2, _⟩ => ⟨S2x1024x768, .i8⟩
  | .local _ .vmem, ⟨3, _⟩ => ⟨S48x1024, .f32⟩
  | .local _ .vmem, ⟨4, _⟩ => ⟨S48x1024, .f32⟩
  | .local _ .vmem, ⟨5, _⟩ => ⟨S48x1024, .f32⟩
  | .local _ .vmem, ⟨6, _⟩ => ⟨S48x1024, .f32⟩
  | .local _ .vmem, ⟨7, _⟩ => ⟨S5x1024, .bf16⟩
  | .local _ .vmem, ⟨8, _⟩ => ⟨S5x1024, .bf16⟩
  | .local _ .vmem, ⟨9, _⟩ => ⟨S5x8x1536, .i8⟩
  | .local _ .vmem, ⟨10, _⟩ => ⟨S5x1x48, .f32⟩
  | .local _ .vmem, ⟨11, _⟩ => ⟨S24x32x256, .bf16⟩
  | .local _ .vmem, ⟨12, _⟩ => ⟨S24x16x256, .bf16⟩
  | .local _ .vmem, ⟨13, _⟩ => ⟨S48x8x128, .f32⟩
  | .local _ .vmem, ⟨14, _⟩ => ⟨S48x8x128, .f32⟩
  | .local _ .vmem, ⟨15, _⟩ => ⟨S8x8x1536, .f32⟩
  | _, _ => ⟨S5x1x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S5x6144 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2x1024x768 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S48x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S48x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S5x8x1536 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S5x1x48 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S5x1x6144 : Shape := ⟨3, ![5, 1, 6144]⟩
abbrev S2x32768x768 : Shape := ⟨3, ![2, 32768, 768]⟩
abbrev S32768x48 : Shape := ⟨2, ![32768, 48]⟩
abbrev S5x1536x4 : Shape := ⟨3, ![5, 1536, 4]⟩
abbrev S8 : Shape := ⟨1, ![8]⟩
abbrev S4 : Shape := ⟨1, ![4]⟩
abbrev S8x1 : Shape := ⟨2, ![8, 1]⟩
abbrev S1x4 : Shape := ⟨2, ![1, 4]⟩
abbrev S8x4 : Shape := ⟨2, ![8, 4]⟩
abbrev S_ : Shape := ⟨0, ![]⟩
abbrev S5x1536x1 : Shape := ⟨3, ![5, 1536, 1]⟩
abbrev S5x1536 : Shape := ⟨2, ![5, 1536]⟩
abbrev S1x1x8 : Shape := ⟨3, ![1, 1, 8]⟩
abbrev S5x1536x8 : Shape := ⟨3, ![5, 1536, 8]⟩
abbrev S5x48x256 : Shape := ⟨3, ![5, 48, 256]⟩
abbrev S5x48 : Shape := ⟨2, ![5, 48]⟩
abbrev S5x48x1 : Shape := ⟨3, ![5, 48, 1]⟩
abbrev S5x768x2x8 : Shape := ⟨4, ![5, 768, 2, 8]⟩
abbrev S5x768x1x8 : Shape := ⟨4, ![5, 768, 1, 8]⟩
abbrev S5x768x8 : Shape := ⟨3, ![5, 768, 8]⟩
abbrev S5x768x1 : Shape := ⟨3, ![5, 768, 1]⟩
abbrev S5x768 : Shape := ⟨2, ![5, 768]⟩
abbrev S5x1x1x768 : Shape := ⟨4, ![5, 1, 1, 768]⟩
abbrev S5x2x32768x768 : Shape := ⟨4, ![5, 2, 32768, 768]⟩
abbrev S5x2x32768x48x16 : Shape := ⟨5, ![5, 2, 32768, 48, 16]⟩
abbrev S5x2x32768x48 : Shape := ⟨4, ![5, 2, 32768, 48]⟩
abbrev S2 : Shape := ⟨1, ![2]⟩
abbrev S2x1x1 : Shape := ⟨3, ![2, 1, 1]⟩
abbrev S1x2x1x1 : Shape := ⟨4, ![1, 2, 1, 1]⟩
abbrev S5x32768x48 : Shape := ⟨3, ![5, 32768, 48]⟩
abbrev S5x48x32 : Shape := ⟨3, ![5, 48, 32]⟩
abbrev S1x32768x48 : Shape := ⟨3, ![1, 32768, 48]⟩
abbrev S5x1x48 : Shape := ⟨3, ![5, 1, 48]⟩
abbrev S5x32768 : Shape := ⟨2, ![5, 32768]⟩
abbrev S5x8x1536 : Shape := ⟨3, ![5, 8, 1536]⟩

abbrev nBuf : Space → Nat
  | .hbm => 304
  | .vmem => 0
  | .smem => 0
  | _ => 0

abbrev hbmTy0_0 (i : Nat) : BufTy := match i % 128 with
  | 0 => ⟨S5x1x6144, .bf16⟩
  | 1 => ⟨S2x32768x768, .i8⟩
  | 2 => ⟨S32768x48, .f32⟩
  | 3 => ⟨S32768x48, .f32⟩
  | 4 => ⟨S5x1x6144, .f32⟩
  | 5 => ⟨S5x1536x4, .f32⟩
  | 6 => ⟨S8, .i32⟩
  | 7 => ⟨S4, .i32⟩
  | 8 => ⟨S8x1, .i32⟩
  | 9 => ⟨S1x4, .i32⟩
  | 10 => ⟨S8x4, .i32⟩
  | 11 => ⟨S8x4, .i32⟩
  | 12 => ⟨S8x4, .i32⟩
  | 13 => ⟨S_, .i32⟩
  | 14 => ⟨S8x4, .i32⟩
  | 15 => ⟨S8x4, .i32⟩
  | 16 => ⟨S_, .i32⟩
  | 17 => ⟨S8x4, .i32⟩
  | 18 => ⟨S8x4, .i32⟩
  | 19 => ⟨S_, .i32⟩
  | 20 => ⟨S8x4, .i32⟩
  | 21 => ⟨S8x4, .i32⟩
  | 22 => ⟨S8x4, .f32⟩
  | 23 => ⟨S5x1536x1, .f32⟩
  | 24 => ⟨S5x1536, .f32⟩
  | 25 => ⟨S5x1536x1, .f32⟩
  | 26 => ⟨S8x1, .f32⟩
  | 27 => ⟨S8, .f32⟩
  | 28 => ⟨S1x1x8, .f32⟩
  | 29 => ⟨S5x1536x8, .f32⟩
  | 30 => ⟨S5x1536x8, .f32⟩
  | 31 => ⟨S5x1536x8, .f32⟩
  | 32 => ⟨S_, .f32⟩
  | 33 => ⟨S5x1536x8, .f32⟩
  | 34 => ⟨S5x1536x8, .f32⟩
  | 35 => ⟨S5x1536x1, .f32⟩
  | 36 => ⟨S5x1536, .f32⟩
  | 37 => ⟨S5x1536x1, .f32⟩
  | 38 => ⟨S8x1, .f32⟩
  | 39 => ⟨S8, .f32⟩
  | 40 => ⟨S1x1x8, .f32⟩
  | 41 => ⟨S5x1536x8, .f32⟩
  | 42 => ⟨S5x1536x8, .f32⟩
  | 43 => ⟨S5x1536x8, .f32⟩
  | 44 => ⟨S5x1536x8, .f32⟩
  | 45 => ⟨S5x1536x1, .f32⟩
  | 46 => ⟨S5x1536, .f32⟩
  | 47 => ⟨S5x1536x1, .f32⟩
  | 48 => ⟨S8x1, .f32⟩
  | 49 => ⟨S8, .f32⟩
  | 50 => ⟨S1x1x8, .f32⟩
  | 51 => ⟨S5x1536x8, .f32⟩
  | 52 => ⟨S5x1536x8, .f32⟩
  | 53 => ⟨S5x1536x8, .f32⟩
  | 54 => ⟨S5x1536x8, .f32⟩
  | 55 => ⟨S5x1536x1, .f32⟩
  | 56 => ⟨S5x1536, .f32⟩
  | 57 => ⟨S5x1536x1, .f32⟩
  | 58 => ⟨S8x1, .f32⟩
  | 59 => ⟨S8, .f32⟩
  | 60 => ⟨S1x1x8, .f32⟩
  | 61 => ⟨S5x1536x8, .f32⟩
  | 62 => ⟨S5x1536x8, .f32⟩
  | 63 => ⟨S5x1536x8, .f32⟩
  | 64 => ⟨S5x1536x8, .f32⟩
  | 65 => ⟨S5x48x256, .f32⟩
  | 66 => ⟨S5x48x256, .f32⟩
  | 67 => ⟨S_, .f32⟩
  | 68 => ⟨S5x48, .f32⟩
  | 69 => ⟨S_, .f32⟩
  | 70 => ⟨S5x48, .f32⟩
  | 71 => ⟨S5x48, .i1⟩
  | 72 => ⟨S_, .f32⟩
  | 73 => ⟨S5x48, .f32⟩
  | 74 => ⟨S5x48, .f32⟩
  | 75 => ⟨S_, .f32⟩
  | 76 => ⟨S_, .f32⟩
  | 77 => ⟨S5x48, .f32⟩
  | 78 => ⟨S5x48, .f32⟩
  | 79 => ⟨S5x48x1, .f32⟩
  | 80 => ⟨S5x48x256, .f32⟩
  | 81 => ⟨S5x48x256, .f32⟩
  | 82 => ⟨S5x48x256, .f32⟩
  | 83 => ⟨S_, .i32⟩
  | 84 => ⟨S_, .i32⟩
  | 85 => ⟨S_, .f32⟩
  | 86 => ⟨S5x48x256, .f32⟩
  | 87 => ⟨S5x48x256, .f32⟩
  | 88 => ⟨S_, .f32⟩
  | 89 => ⟨S5x48x256, .f32⟩
  | 90 => ⟨S5x48x256, .f32⟩
  | 91 => ⟨S5x48x256, .i32⟩
  | 92 => ⟨S5x48x256, .i8⟩
  | 93 => ⟨S5x1536x8, .i8⟩
  | 94 => ⟨S5x1536x8, .i32⟩
  | 95 => ⟨S5x768x2x8, .i32⟩
  | 96 => ⟨S2x32768x768, .i32⟩
  | 97 => ⟨S_, .i32⟩
  | 98 => ⟨S2x32768x768, .i32⟩
  | 99 => ⟨S2x32768x768, .i32⟩
  | 100 => ⟨S_, .i32⟩
  | 101 => ⟨S2x32768x768, .i32⟩
  | 102 => ⟨S2x32768x768, .i32⟩
  | 103 => ⟨S5x768x1x8, .i32⟩
  | 104 => ⟨S5x768x8, .i32⟩
  | 105 => ⟨S_, .i32⟩
  | 106 => ⟨S2x32768x768, .i32⟩
  | 107 => ⟨S2x32768x768, .i32⟩
  | 108 => ⟨S2x32768x768, .i32⟩
  | 109 => ⟨S5x768x1, .i32⟩
  | 110 => ⟨S5x768, .i32⟩
  | 111 => ⟨S5x1x1x768, .i32⟩
  | 112 => ⟨S5x768x1, .i32⟩
  | 113 => ⟨S5x768, .i32⟩
  | 114 => ⟨S5x1x1x768, .i32⟩
  | 115 => ⟨S5x768x1, .i32⟩
  | 116 => ⟨S5x768, .i32⟩
  | 117 => ⟨S5x1x1x768, .i32⟩
  | 118 => ⟨S5x768x1, .i32⟩
  | 119 => ⟨S5x768, .i32⟩
  | 120 => ⟨S5x1x1x768, .i32⟩
  | 121 => ⟨S5x768x1, .i32⟩
  | 122 => ⟨S5x768, .i32⟩
  | 123 => ⟨S5x1x1x768, .i32⟩
  | 124 => ⟨S5x768x1, .i32⟩
  | 125 => ⟨S5x768, .i32⟩
  | 126 => ⟨S5x1x1x768, .i32⟩
  | 127 => ⟨S5x768x1, .i32⟩
  | _ => ⟨S5x1x6144, .bf16⟩

abbrev hbmTy0_1 (i : Nat) : BufTy := match i % 128 with
  | 0 => ⟨S5x768, .i32⟩
  | 1 => ⟨S5x1x1x768, .i32⟩
  | 2 => ⟨S5x768x1, .i32⟩
  | 3 => ⟨S5x768, .i32⟩
  | 4 => ⟨S5x1x1x768, .i32⟩
  | 5 => ⟨S_, .i32⟩
  | 6 => ⟨S2x32768x768, .i32⟩
  | 7 => ⟨S2x32768x768, .i32⟩
  | 8 => ⟨S_, .i32⟩
  | 9 => ⟨S2x32768x768, .i32⟩
  | 10 => ⟨S2x32768x768, .i1⟩
  | 11 => ⟨S_, .i32⟩
  | 12 => ⟨S2x32768x768, .i32⟩
  | 13 => ⟨S2x32768x768, .i32⟩
  | 14 => ⟨S_, .i32⟩
  | 15 => ⟨S2x32768x768, .i32⟩
  | 16 => ⟨S2x32768x768, .i1⟩
  | 17 => ⟨S_, .i32⟩
  | 18 => ⟨S2x32768x768, .i32⟩
  | 19 => ⟨S2x32768x768, .i32⟩
  | 20 => ⟨S_, .i32⟩
  | 21 => ⟨S2x32768x768, .i32⟩
  | 22 => ⟨S2x32768x768, .i1⟩
  | 23 => ⟨S5x2x32768x768, .i1⟩
  | 24 => ⟨S5x2x32768x768, .i32⟩
  | 25 => ⟨S5x2x32768x768, .i32⟩
  | 26 => ⟨S5x2x32768x768, .i32⟩
  | 27 => ⟨S5x2x32768x768, .i1⟩
  | 28 => ⟨S5x2x32768x768, .i32⟩
  | 29 => ⟨S5x2x32768x768, .i32⟩
  | 30 => ⟨S5x2x32768x768, .i32⟩
  | 31 => ⟨S5x2x32768x768, .i1⟩
  | 32 => ⟨S5x2x32768x768, .i32⟩
  | 33 => ⟨S5x2x32768x768, .i32⟩
  | 34 => ⟨S5x2x32768x768, .i32⟩
  | 35 => ⟨S5x2x32768x768, .i1⟩
  | 36 => ⟨S5x2x32768x768, .i32⟩
  | 37 => ⟨S5x2x32768x768, .i32⟩
  | 38 => ⟨S5x2x32768x768, .i32⟩
  | 39 => ⟨S5x2x32768x768, .i1⟩
  | 40 => ⟨S5x2x32768x768, .i32⟩
  | 41 => ⟨S5x2x32768x768, .i1⟩
  | 42 => ⟨S5x2x32768x768, .i32⟩
  | 43 => ⟨S5x2x32768x768, .i1⟩
  | 44 => ⟨S5x2x32768x768, .i32⟩
  | 45 => ⟨S_, .i32⟩
  | 46 => ⟨S2x32768x768, .i32⟩
  | 47 => ⟨S2x32768x768, .i1⟩
  | 48 => ⟨S5x2x32768x768, .i32⟩
  | 49 => ⟨S5x2x32768x768, .i1⟩
  | 50 => ⟨S5x2x32768x768, .i32⟩
  | 51 => ⟨S5x768x1x8, .i32⟩
  | 52 => ⟨S5x768x8, .i32⟩
  | 53 => ⟨S_, .i32⟩
  | 54 => ⟨S2x32768x768, .i32⟩
  | 55 => ⟨S2x32768x768, .i32⟩
  | 56 => ⟨S2x32768x768, .i32⟩
  | 57 => ⟨S5x768x1, .i32⟩
  | 58 => ⟨S5x768, .i32⟩
  | 59 => ⟨S5x1x1x768, .i32⟩
  | 60 => ⟨S5x768x1, .i32⟩
  | 61 => ⟨S5x768, .i32⟩
  | 62 => ⟨S5x1x1x768, .i32⟩
  | 63 => ⟨S5x768x1, .i32⟩
  | 64 => ⟨S5x768, .i32⟩
  | 65 => ⟨S5x1x1x768, .i32⟩
  | 66 => ⟨S5x768x1, .i32⟩
  | 67 => ⟨S5x768, .i32⟩
  | 68 => ⟨S5x1x1x768, .i32⟩
  | 69 => ⟨S5x768x1, .i32⟩
  | 70 => ⟨S5x768, .i32⟩
  | 71 => ⟨S5x1x1x768, .i32⟩
  | 72 => ⟨S5x768x1, .i32⟩
  | 73 => ⟨S5x768, .i32⟩
  | 74 => ⟨S5x1x1x768, .i32⟩
  | 75 => ⟨S5x768x1, .i32⟩
  | 76 => ⟨S5x768, .i32⟩
  | 77 => ⟨S5x1x1x768, .i32⟩
  | 78 => ⟨S5x768x1, .i32⟩
  | 79 => ⟨S5x768, .i32⟩
  | 80 => ⟨S5x1x1x768, .i32⟩
  | 81 => ⟨S_, .i32⟩
  | 82 => ⟨S2x32768x768, .i32⟩
  | 83 => ⟨S2x32768x768, .i32⟩
  | 84 => ⟨S_, .i32⟩
  | 85 => ⟨S2x32768x768, .i32⟩
  | 86 => ⟨S2x32768x768, .i1⟩
  | 87 => ⟨S_, .i32⟩
  | 88 => ⟨S2x32768x768, .i32⟩
  | 89 => ⟨S2x32768x768, .i32⟩
  | 90 => ⟨S_, .i32⟩
  | 91 => ⟨S2x32768x768, .i32⟩
  | 92 => ⟨S2x32768x768, .i1⟩
  | 93 => ⟨S_, .i32⟩
  | 94 => ⟨S2x32768x768, .i32⟩
  | 95 => ⟨S2x32768x768, .i32⟩
  | 96 => ⟨S_, .i32⟩
  | 97 => ⟨S2x32768x768, .i32⟩
  | 98 => ⟨S2x32768x768, .i1⟩
  | 99 => ⟨S5x2x32768x768, .i1⟩
  | 100 => ⟨S5x2x32768x768, .i32⟩
  | 101 => ⟨S5x2x32768x768, .i32⟩
  | 102 => ⟨S5x2x32768x768, .i32⟩
  | 103 => ⟨S5x2x32768x768, .i1⟩
  | 104 => ⟨S5x2x32768x768, .i32⟩
  | 105 => ⟨S5x2x32768x768, .i32⟩
  | 106 => ⟨S5x2x32768x768, .i32⟩
  | 107 => ⟨S5x2x32768x768, .i1⟩
  | 108 => ⟨S5x2x32768x768, .i32⟩
  | 109 => ⟨S5x2x32768x768, .i32⟩
  | 110 => ⟨S5x2x32768x768, .i32⟩
  | 111 => ⟨S5x2x32768x768, .i1⟩
  | 112 => ⟨S5x2x32768x768, .i32⟩
  | 113 => ⟨S5x2x32768x768, .i32⟩
  | 114 => ⟨S5x2x32768x768, .i32⟩
  | 115 => ⟨S5x2x32768x768, .i1⟩
  | 116 => ⟨S5x2x32768x768, .i32⟩
  | 117 => ⟨S5x2x32768x768, .i1⟩
  | 118 => ⟨S5x2x32768x768, .i32⟩
  | 119 => ⟨S5x2x32768x768, .i1⟩
  | 120 => ⟨S5x2x32768x768, .i32⟩
  | 121 => ⟨S_, .i32⟩
  | 122 => ⟨S2x32768x768, .i32⟩
  | 123 => ⟨S2x32768x768, .i1⟩
  | 124 => ⟨S5x2x32768x768, .i32⟩
  | 125 => ⟨S5x2x32768x768, .i1⟩
  | 126 => ⟨S5x2x32768x768, .i32⟩
  | 127 => ⟨S5x2x32768x768, .i32⟩
  | _ => ⟨S5x1x6144, .bf16⟩

abbrev hbmTy0_2 (i : Nat) : BufTy := match i % 128 with
  | 0 => ⟨S5x2x32768x48x16, .i32⟩
  | 1 => ⟨S_, .i32⟩
  | 2 => ⟨S5x2x32768x48, .i32⟩
  | 3 => ⟨S2, .i32⟩
  | 4 => ⟨S_, .i32⟩
  | 5 => ⟨S2, .i32⟩
  | 6 => ⟨S2, .i32⟩
  | 7 => ⟨S2x1x1, .i32⟩
  | 8 => ⟨S1x2x1x1, .i32⟩
  | 9 => ⟨S5x2x32768x48, .i32⟩
  | 10 => ⟨S5x2x32768x48, .i32⟩
  | 11 => ⟨S_, .i32⟩
  | 12 => ⟨S5x32768x48, .i32⟩
  | 13 => ⟨S5x1536x1, .i8⟩
  | 14 => ⟨S5x1536, .i8⟩
  | 15 => ⟨S5x1536, .i32⟩
  | 16 => ⟨S5x48x32, .i32⟩
  | 17 => ⟨S_, .i32⟩
  | 18 => ⟨S5x48, .i32⟩
  | 19 => ⟨S5x48, .i32⟩
  | 20 => ⟨S5x32768x48, .f32⟩
  | 21 => ⟨S_, .f32⟩
  | 22 => ⟨S32768x48, .f32⟩
  | 23 => ⟨S32768x48, .f32⟩
  | 24 => ⟨S_, .f32⟩
  | 25 => ⟨S32768x48, .f32⟩
  | 26 => ⟨S32768x48, .f32⟩
  | 27 => ⟨S1x32768x48, .f32⟩
  | 28 => ⟨S5x48, .f32⟩
  | 29 => ⟨S5x1x48, .f32⟩
  | 30 => ⟨S5x32768x48, .f32⟩
  | 31 => ⟨S5x32768x48, .f32⟩
  | 32 => ⟨S5x32768x48, .f32⟩
  | 33 => ⟨S5x32768x48, .f32⟩
  | 34 => ⟨S1x32768x48, .f32⟩
  | 35 => ⟨S_, .f32⟩
  | 36 => ⟨S5x48, .f32⟩
  | 37 => ⟨S5x48, .f32⟩
  | 38 => ⟨S5x1x48, .f32⟩
  | 39 => ⟨S5x32768x48, .f32⟩
  | 40 => ⟨S5x32768x48, .f32⟩
  | 41 => ⟨S5x32768x48, .f32⟩
  | 42 => ⟨S5x32768x48, .f32⟩
  | 43 => ⟨S_, .f32⟩
  | 44 => ⟨S5x32768, .f32⟩
  | 45 => ⟨S5x32768, .bf16⟩
  | 46 => ⟨S5x8x1536, .i8⟩
  | 47 => ⟨S5x1x48, .f32⟩
  | _ => ⟨S5x1x6144, .bf16⟩

abbrev hbmTy (i : Nat) : BufTy := match i / 128 with
  | 0 => hbmTy0_0 i
  | 1 => hbmTy0_1 i
  | 2 => hbmTy0_2 i
  | _ => ⟨S5x1x6144, .bf16⟩

abbrev bufTy : (tb : Table) → Fin (tcTables nBuf tb) → BufTy
  | .hbm, ⟨i, _⟩ => hbmTy i
  | _, _ => ⟨S5x1x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c : Ref sig .tc := ⟨.hbm, 13, rfl⟩
abbrev main_v9 : Ref sig .tc := ⟨.hbm, 14, rfl⟩
abbrev main_v10 : Ref sig .tc := ⟨.hbm, 15, rfl⟩
abbrev main_c_0 : Ref sig .tc := ⟨.hbm, 16, rfl⟩
abbrev main_v11 : Ref sig .tc := ⟨.hbm, 17, rfl⟩
abbrev main_v12 : Ref sig .tc := ⟨.hbm, 18, rfl⟩
abbrev main_c_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_cst_2 : Ref sig .tc := ⟨.hbm, 67, rfl⟩
abbrev main_v59 : Ref sig .tc := ⟨.hbm, 68, rfl⟩
abbrev main_cst_3 : Ref sig .tc := ⟨.hbm, 69, rfl⟩
abbrev main_v60 : Ref sig .tc := ⟨.hbm, 70, rfl⟩
abbrev main_v61 : Ref sig .tc := ⟨.hbm, 71, rfl⟩
abbrev main_cst_4 : Ref sig .tc := ⟨.hbm, 72, rfl⟩
abbrev main_v62 : Ref sig .tc := ⟨.hbm, 73, rfl⟩
abbrev main_v63 : Ref sig .tc := ⟨.hbm, 74, rfl⟩
abbrev main_cst_5 : Ref sig .tc := ⟨.hbm, 75, rfl⟩
abbrev main_call0_v0 : Ref sig .tc := ⟨.hbm, 76, rfl⟩
abbrev main_call0_v1 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_c_6 : Ref sig .tc := ⟨.hbm, 83, rfl⟩
abbrev main_c_7 : Ref sig .tc := ⟨.hbm, 84, rfl⟩
abbrev main_call2_v0 : Ref sig .tc := ⟨.hbm, 85, rfl⟩
abbrev main_call2_v1 : Ref sig .tc := ⟨.hbm, 86, rfl⟩
abbrev main_call2_v2 : Ref sig .tc := ⟨.hbm, 87, rfl⟩
abbrev main_call2_v3 : Ref sig .tc := ⟨.hbm, 88, rfl⟩
abbrev main_call2_v4 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_c_8 : Ref sig .tc := ⟨.hbm, 97, rfl⟩
abbrev main_v76 : Ref sig .tc := ⟨.hbm, 98, rfl⟩
abbrev main_v77 : Ref sig .tc := ⟨.hbm, 99, rfl⟩
abbrev main_c_9 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_c_10 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_c_11 : Ref sig .tc := ⟨.hbm, 133, rfl⟩
abbrev main_v109 : Ref sig .tc := ⟨.hbm, 134, rfl⟩
abbrev main_v110 : Ref sig .tc := ⟨.hbm, 135, rfl⟩
abbrev main_c_12 : Ref sig .tc := ⟨.hbm, 136, rfl⟩
abbrev main_v111 : Ref sig .tc := ⟨.hbm, 137, rfl⟩
abbrev main_v112 : Ref sig .tc := ⟨.hbm, 138, rfl⟩
abbrev main_c_13 : Ref sig .tc := ⟨.hbm, 139, rfl⟩
abbrev main_v113 : Ref sig .tc := ⟨.hbm, 140, rfl⟩
abbrev main_v114 : Ref sig .tc := ⟨.hbm, 141, rfl⟩
abbrev main_c_14 : Ref sig .tc := ⟨.hbm, 142, rfl⟩
abbrev main_v115 : Ref sig .tc := ⟨.hbm, 143, rfl⟩
abbrev main_v116 : Ref sig .tc := ⟨.hbm, 144, rfl⟩
abbrev main_c_15 : Ref sig .tc := ⟨.hbm, 145, rfl⟩
abbrev main_v117 : Ref sig .tc := ⟨.hbm, 146, rfl⟩
abbrev main_v118 : Ref sig .tc := ⟨.hbm, 147, rfl⟩
abbrev main_c_16 : Ref sig .tc := ⟨.hbm, 148, rfl⟩
abbrev main_v119 : Ref sig .tc := ⟨.hbm, 149, rfl⟩
abbrev main_v120 : Ref sig .tc := ⟨.hbm, 150, rfl⟩
abbrev main_call3_v0 : Ref sig .tc := ⟨.hbm, 151, rfl⟩
abbrev main_call3_v1 : Ref sig .tc := ⟨.hbm, 152, rfl⟩
abbrev main_call3_v2 : Ref sig .tc := ⟨.hbm, 153, rfl⟩
abbrev main_v121 : Ref sig .tc := ⟨.hbm, 154, rfl⟩
abbrev main_call4_v0 : Ref sig .tc := ⟨.hbm, 155, rfl⟩
abbrev main_call4_v1 : Ref sig .tc := ⟨.hbm, 156, rfl⟩
abbrev main_call4_v2 : Ref sig .tc := ⟨.hbm, 157, rfl⟩
abbrev main_v122 : Ref sig .tc := ⟨.hbm, 158, rfl⟩
abbrev main_call5_v0 : Ref sig .tc := ⟨.hbm, 159, rfl⟩
abbrev main_call5_v1 : Ref sig .tc := ⟨.hbm, 160, rfl⟩
abbrev main_call5_v2 : Ref sig .tc := ⟨.hbm, 161, rfl⟩
abbrev main_v123 : Ref sig .tc := ⟨.hbm, 162, rfl⟩
abbrev main_call6_v0 : Ref sig .tc := ⟨.hbm, 163, rfl⟩
abbrev main_call6_v1 : Ref sig .tc := ⟨.hbm, 164, rfl⟩
abbrev main_call6_v2 : Ref sig .tc := ⟨.hbm, 165, rfl⟩
abbrev main_v124 : Ref sig .tc := ⟨.hbm, 166, rfl⟩
abbrev main_call7_v0 : Ref sig .tc := ⟨.hbm, 167, rfl⟩
abbrev main_v125 : Ref sig .tc := ⟨.hbm, 168, rfl⟩
abbrev main_call8_v0 : Ref sig .tc := ⟨.hbm, 169, rfl⟩
abbrev main_v126 : Ref sig .tc := ⟨.hbm, 170, rfl⟩
abbrev main_call9_v0 : Ref sig .tc := ⟨.hbm, 171, rfl⟩
abbrev main_v127 : Ref sig .tc := ⟨.hbm, 172, rfl⟩
abbrev main_c_17 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_call10_v0 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_c_18 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩
abbrev main_v151 : Ref sig .tc := ⟨.hbm, 199, rfl⟩
abbrev main_v152 : Ref sig .tc := ⟨.hbm, 200, rfl⟩
abbrev main_v153 : Ref sig .tc := ⟨.hbm, 201, rfl⟩
abbrev main_v154 : Ref sig .tc := ⟨.hbm, 202, rfl⟩
abbrev main_v155 : Ref sig .tc := ⟨.hbm, 203, rfl⟩
abbrev main_v156 : Ref sig .tc := ⟨.hbm, 204, rfl⟩
abbrev main_v157 : Ref sig .tc := ⟨.hbm, 205, rfl⟩
abbrev main_v158 : Ref sig .tc := ⟨.hbm, 206, rfl⟩
abbrev main_v159 : Ref sig .tc := ⟨.hbm, 207, rfl⟩
abbrev main_v160 : Ref sig .tc := ⟨.hbm, 208, rfl⟩
abbrev main_c_19 : Ref sig .tc := ⟨.hbm, 209, rfl⟩
abbrev main_v161 : Ref sig .tc := ⟨.hbm, 210, rfl⟩
abbrev main_v162 : Ref sig .tc := ⟨.hbm, 211, rfl⟩
abbrev main_c_20 : Ref sig .tc := ⟨.hbm, 212, rfl⟩
abbrev main_v163 : Ref sig .tc := ⟨.hbm, 213, rfl⟩
abbrev main_v164 : Ref sig .tc := ⟨.hbm, 214, rfl⟩
abbrev main_c_21 : Ref sig .tc := ⟨.hbm, 215, rfl⟩
abbrev main_v165 : Ref sig .tc := ⟨.hbm, 216, rfl⟩
abbrev main_v166 : Ref sig .tc := ⟨.hbm, 217, rfl⟩
abbrev main_c_22 : Ref sig .tc := ⟨.hbm, 218, rfl⟩
abbrev main_v167 : Ref sig .tc := ⟨.hbm, 219, rfl⟩
abbrev main_v168 : Ref sig .tc := ⟨.hbm, 220, rfl⟩
abbrev main_c_23 : Ref sig .tc := ⟨.hbm, 221, rfl⟩
abbrev main_v169 : Ref sig .tc := ⟨.hbm, 222, rfl⟩
abbrev main_v170 : Ref sig .tc := ⟨.hbm, 223, rfl⟩
abbrev main_c_24 : Ref sig .tc := ⟨.hbm, 224, rfl⟩
abbrev main_v171 : Ref sig .tc := ⟨.hbm, 225, rfl⟩
abbrev main_v172 : Ref sig .tc := ⟨.hbm, 226, rfl⟩
abbrev main_call11_v0 : Ref sig .tc := ⟨.hbm, 227, rfl⟩
abbrev main_call11_v1 : Ref sig .tc := ⟨.hbm, 228, rfl⟩
abbrev main_call11_v2 : Ref sig .tc := ⟨.hbm, 229, rfl⟩
abbrev main_v173 : Ref sig .tc := ⟨.hbm, 230, rfl⟩
abbrev main_call12_v0 : Ref sig .tc := ⟨.hbm, 231, rfl⟩
abbrev main_call12_v1 : Ref sig .tc := ⟨.hbm, 232, rfl⟩
abbrev main_call12_v2 : Ref sig .tc := ⟨.hbm, 233, rfl⟩
abbrev main_v174 : Ref sig .tc := ⟨.hbm, 234, rfl⟩
abbrev main_call13_v0 : Ref sig .tc := ⟨.hbm, 235, rfl⟩
abbrev main_call13_v1 : Ref sig .tc := ⟨.hbm, 236, rfl⟩
abbrev main_call13_v2 : Ref sig .tc := ⟨.hbm, 237, rfl⟩
abbrev main_v175 : Ref sig .tc := ⟨.hbm, 238, rfl⟩
abbrev main_call14_v0 : Ref sig .tc := ⟨.hbm, 239, rfl⟩
abbrev main_call14_v1 : Ref sig .tc := ⟨.hbm, 240, rfl⟩
abbrev main_call14_v2 : Ref sig .tc := ⟨.hbm, 241, rfl⟩
abbrev main_v176 : Ref sig .tc := ⟨.hbm, 242, rfl⟩
abbrev main_call15_v0 : Ref sig .tc := ⟨.hbm, 243, rfl⟩
abbrev main_v177 : Ref sig .tc := ⟨.hbm, 244, rfl⟩
abbrev main_call16_v0 : Ref sig .tc := ⟨.hbm, 245, rfl⟩
abbrev main_v178 : Ref sig .tc := ⟨.hbm, 246, rfl⟩
abbrev main_call17_v0 : Ref sig .tc := ⟨.hbm, 247, rfl⟩
abbrev main_v179 : Ref sig .tc := ⟨.hbm, 248, rfl⟩
abbrev main_c_25 : Ref sig .tc := ⟨.hbm, 249, rfl⟩
abbrev main_v180 : Ref sig .tc := ⟨.hbm, 250, rfl⟩
abbrev main_v181 : Ref sig .tc := ⟨.hbm, 251, rfl⟩
abbrev main_v182 : Ref sig .tc := ⟨.hbm, 252, rfl⟩
abbrev main_call18_v0 : Ref sig .tc := ⟨.hbm, 253, rfl⟩
abbrev main_v183 : Ref sig .tc := ⟨.hbm, 254, rfl⟩
abbrev main_v184 : Ref sig .tc := ⟨.hbm, 255, rfl⟩
abbrev main_v185 : Ref sig .tc := ⟨.hbm, 256, rfl⟩
abbrev main_c_26 : Ref sig .tc := ⟨.hbm, 257, rfl⟩
abbrev main_v186 : Ref sig .tc := ⟨.hbm, 258, rfl⟩
abbrev main_v187 : Ref sig .tc := ⟨.hbm, 259, rfl⟩
abbrev main_c_27 : Ref sig .tc := ⟨.hbm, 260, rfl⟩
abbrev main_v188 : Ref sig .tc := ⟨.hbm, 261, rfl⟩
abbrev main_v189 : Ref sig .tc := ⟨.hbm, 262, rfl⟩
abbrev main_v190 : Ref sig .tc := ⟨.hbm, 263, rfl⟩
abbrev main_v191 : Ref sig .tc := ⟨.hbm, 264, rfl⟩
abbrev main_v192 : Ref sig .tc := ⟨.hbm, 265, rfl⟩
abbrev main_v193 : Ref sig .tc := ⟨.hbm, 266, rfl⟩
abbrev main_c_28 : Ref sig .tc := ⟨.hbm, 267, rfl⟩
abbrev main_v194 : Ref sig .tc := ⟨.hbm, 268, rfl⟩
abbrev main_v195 : Ref sig .tc := ⟨.hbm, 269, rfl⟩
abbrev main_v196 : Ref sig .tc := ⟨.hbm, 270, rfl⟩
abbrev main_v197 : Ref sig .tc := ⟨.hbm, 271, rfl⟩
abbrev main_v198 : Ref sig .tc := ⟨.hbm, 272, rfl⟩
abbrev main_c_29 : Ref sig .tc := ⟨.hbm, 273, rfl⟩
abbrev main_v199 : Ref sig .tc := ⟨.hbm, 274, rfl⟩
abbrev main_v200 : Ref sig .tc := ⟨.hbm, 275, rfl⟩
abbrev main_v201 : Ref sig .tc := ⟨.hbm, 276, rfl⟩
abbrev main_cst_30 : Ref sig .tc := ⟨.hbm, 277, rfl⟩
abbrev main_v202 : Ref sig .tc := ⟨.hbm, 278, rfl⟩
abbrev main_v203 : Ref sig .tc := ⟨.hbm, 279, rfl⟩
abbrev main_cst_31 : Ref sig .tc := ⟨.hbm, 280, rfl⟩
abbrev main_v204 : Ref sig .tc := ⟨.hbm, 281, rfl⟩
abbrev main_v205 : Ref sig .tc := ⟨.hbm, 282, rfl⟩
abbrev main_v206 : Ref sig .tc := ⟨.hbm, 283, rfl⟩
abbrev main_v207 : Ref sig .tc := ⟨.hbm, 284, rfl⟩
abbrev main_v208 : Ref sig .tc := ⟨.hbm, 285, rfl⟩
abbrev main_v209 : Ref sig .tc := ⟨.hbm, 286, rfl⟩
abbrev main_v210 : Ref sig .tc := ⟨.hbm, 287, rfl⟩
abbrev main_v211 : Ref sig .tc := ⟨.hbm, 288, rfl⟩
abbrev main_v212 : Ref sig .tc := ⟨.hbm, 289, rfl⟩
abbrev main_v213 : Ref sig .tc := ⟨.hbm, 290, rfl⟩
abbrev main_cst_32 : Ref sig .tc := ⟨.hbm, 291, rfl⟩
abbrev main_v214 : Ref sig .tc := ⟨.hbm, 292, rfl⟩
abbrev main_v215 : Ref sig .tc := ⟨.hbm, 293, rfl⟩
abbrev main_v216 : Ref sig .tc := ⟨.hbm, 294, rfl⟩
abbrev main_v217 : Ref sig .tc := ⟨.hbm, 295, rfl⟩
abbrev main_v218 : Ref sig .tc := ⟨.hbm, 296, rfl⟩
abbrev main_v219 : Ref sig .tc := ⟨.hbm, 297, rfl⟩
abbrev main_v220 : Ref sig .tc := ⟨.hbm, 298, rfl⟩
abbrev main_cst_33 : Ref sig .tc := ⟨.hbm, 299, rfl⟩
abbrev main_v221 : Ref sig .tc := ⟨.hbm, 300, rfl⟩
abbrev main_v222 : Ref sig .tc := ⟨.hbm, 301, rfl⟩
abbrev main_v223 : Ref sig .tc := ⟨.hbm, 302, rfl⟩
abbrev main_v224 : Ref sig .tc := ⟨.hbm, 303, rfl⟩

abbrev nD : Nat := 1
abbrev τ : Topo := Topo.v7x

variable {F : FTy → Type} [FloatOps F]
-- ==== Proof.Kit.lean ====
/-
  What the two cases of the kernel body share: the branch condition in closed form over the grid points, the
  staging and scratch memrefs under short names, and the scratch operands as the invariant holds them.
-/
module

public import proofs.«01_k».proof.Proof.Gen.KernelIdeal.Frame
public import proofs.«01_k».proof.Proof.Gen.KernelIdeal.Skeleton

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 32 = 0 :=
  (fun t => by
    have ht : t.val < 32 := Nat.lt_of_lt_of_eq t.isLt N_0
    have e0 : (grid0.coords t 0).val = t.val / 1 % 32 := Pipeline.Grid.coords_val t 0 (by decide) rfl
    simp only [cond0_0, k0_cond1, e0]
    word_cmp
   : ∀ t : Fin grid0.N, cond0_0 (grid0.coords t) ↔ t.val % 32 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S5x6144 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2x1024x768 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S48x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S48x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S5x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S5x8x1536 .i8 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S5x1x48 .f32 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S24x32x256 .bf16 := Memref.whole cc0_scratch0
abbrev scM0_1 : Memref sig .tc .vmem S24x16x256 .bf16 := Memref.whole cc0_scratch1
abbrev scM0_2 : Memref sig .tc .vmem S48x8x128 .f32 := Memref.whole cc0_scratch2
abbrev scM0_3 : Memref sig .tc .vmem S48x8x128 .f32 := Memref.whole cc0_scratch3
abbrev scM0_4 : Memref sig .tc .vmem S8x8x1536 .f32 := Memref.whole cc0_scratch4

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.KernelIdeal.Hand

end
-- ==== Proof.Steps.lean ====
/-
  The block of `y` one grid point computes, as one fold over the 24 pairs of groups: the words of the planes,
  the signed features taken from them, the two dots of a pair, and the term each group adds.
-/
module

public import proofs.«01_k».proof.Proof.Kit

@[expose] public section

set_option maxRecDepth 16384

noncomputable section

namespace Cert.KernelIdeal.Hand

open Cert.KernelIdeal Cert.KernelIdeal.Gen
open Idealize.ShloMosaic Idealize.ShloMosaic.TcCoe
open Idealize.ShloMosaic.View (ld)

variable {F : FTy → Type} [FloatOps F]

/-- The words of one plane over a tile of 128 bytes: row `r`, lane `n` packs bytes `4 r .. 4 r + 3` of output channel `n`. -/
def planeWords (v : Vec F S1x1024x128 .i8) : IVec S32x1024 32 :=
  bitcast S32x1024 32
    (transpose S128x1024 [1, 0] (shapeCast S1024x128 v shapeCasts_S1x1024x128_S1024x128 : IVec S1024x128 8)
      transposes_S1024x128_p1_0_S128x1024) bitcasts_S128x1024_w8_S32x1024_w32

/-- The parities of neighbouring bits of the two planes, at the even positions. -/
def wx (p0 p1 : IVec S8x1024 32) : IVec S8x1024 32 :=
  andi (xori (shrui p0 (broadcast S8x1024 1#32)) p1) (broadcast S8x1024 1431655765#32)
/-- The words holding the 2-bit fields of the odd weights. -/
def wodd (p0 p1 : IVec S8x1024 32) : IVec S8x1024 32 := xori p1 (wx p0 p1)
/-- The words holding the 2-bit fields of the even weights. -/
def weven (p0 p1 : IVec S8x1024 32) : IVec S8x1024 32 := xori p0 (shli (wx p0 p1) (broadcast S8x1024 1#32))
/-- The words moved to their upper nibbles. -/
def wup (v : IVec S8x1024 32) : IVec S8x1024 32 := shrui v (broadcast S8x1024 4#32)
/-- The low field of a nibble. -/
def wlo (v : IVec S8x1024 32) : IVec S8x1024 32 := andi v (broadcast S8x1024 50529027#32)
/-- The high field of a nibble. -/
def whi (v : IVec S8x1024 32) : IVec S8x1024 32 := andi v (broadcast S8x1024 202116108#32)
def wz23 (ev od : IVec S8x1024 32) : IVec S8x1024 32 := shrui (xori (whi ev) (whi od)) (broadcast S8x1024 2#32)
def wz01 (ev od : IVec S8x1024 32) : IVec S8x1024 32 := shli (xori (wlo ev) (wlo od)) (broadcast S8x1024 2#32)

/-- The bytes of a word as 8-bit floats. -/
def asF8 (v : IVec S8x1024 32) : FVec F S32x1024 .fp8e4m3 :=
  bitcastToFloat .fp8e4m3 (bitcast S32x1024 8 v bitcasts_S8x1024_w32_S32x1024_w8)

/-- Eight features, one above another. -/
def stack8 (a b c d e f g h : FVec F S32x1024 .fp8e4m3) : FVec F S256x1024 .fp8e4m3 :=
  concatenate S256x1024 0 [⟨S32x1024, a⟩, ⟨S32x1024, b⟩, ⟨S32x1024, c⟩, ⟨S32x1024, d⟩, ⟨S32x1024, e⟩, ⟨S32x1024, f⟩, ⟨S32x1024, g⟩, ⟨S32x1024, h⟩]
    concatenates_S32x1024_S32x1024_S32x1024_S32x1024_S32x1024_S32x1024_S32x1024_S32x1024_S256x1024_d0

/-- The linear features of both nibbles. -/
def linFeat (ev od : IVec S8x1024 32) : FVec F S256x1024 .fp8e4m3 :=
  stack8 (asF8 (wlo ev)) (asF8 (whi ev)) (asF8 (wlo od)) (asF8 (whi od))
    (asF8 (wlo (wup ev))) (asF8 (whi (wup ev))) (asF8 (wlo (wup od))) (asF8 (whi (wup od)))

/-- The cubic features of both nibbles. -/
def cubFeat (ev od : IVec S8x1024 32) : FVec F S256x1024 .fp8e4m3 :=
  stack8 (asF8 (xori (wlo ev) (wz23 ev od))) (asF8 (xori (wlo od) (wz23 ev od)))
    (asF8 (xori (whi ev) (wz01 ev od))) (asF8 (xori (whi od) (wz01 ev od)))
    (asF8 (xori (wlo (wup ev)) (wz23 (wup ev) (wup od)))) (asF8 (xori (wlo (wup od)) (wz23 (wup ev) (wup od))))
    (asF8 (xori (whi (wup ev)) (wz01 (wup ev) (wup od)))) (asF8 (xori (whi (wup od)) (wz01 (wup ev) (wup od))))

/-- The dot of the linear features of a pair. -/
def dotLin (l : Vec F S1x32x256 .bf16) (w : FVec F S256x1024 .fp8e4m3) : FVec F S32x1024 .f32 :=
  matmul dot_S32x256_S256x1024_S32x1024_1_0_0_1_n_n none (shapeCast S32x256 l shapeCasts_S1x32x256_S32x256 : FVec F S32x256 .bf16) w
    (constant S32x1024 .f32 0x00000000#32)

/-- The dot of the cubic features of a pair. -/
def dotCub (l : Vec F S1x16x256 .bf16) (w : FVec F S256x1024 .fp8e4m3) : FVec F S16x1024 .f32 :=
  matmul dot_S16x256_S256x1024_S16x1024_1_0_0_1_n_n none (shapeCast S16x256 l shapeCasts_S1x16x256_S16x256 : FVec F S16x256 .bf16) w
    (constant S16x1024 .f32 0x00000000#32)

/-- A per-group row of 128 lanes, repeated along the block. -/
def rep8 (v : Vec F S1x8x128 .f32) : FVec F S8x1024 .f32 :=
  have u : FVec F S8x128 .f32 := shapeCast S8x128 v shapeCasts_S1x8x128_S8x128
  concatenate S8x1024 1 [⟨S8x128, u⟩, ⟨S8x128, u⟩, ⟨S8x128, u⟩, ⟨S8x128, u⟩, ⟨S8x128, u⟩, ⟨S8x128, u⟩, ⟨S8x128, u⟩, ⟨S8x128, u⟩]
    concatenates_S8x128_S8x128_S8x128_S8x128_S8x128_S8x128_S8x128_S8x128_S8x1024_d1

/-- A row of the block's weights under every token. -/
def rowAll (v : Vec F S1x1024 .f32) : FVec F S8x1024 .f32 :=
  broadcastTo S8x1024 (shapeCast S1x1024 v shapeCasts_S1x1024_S1x1024 : FVec F S1x1024 .f32) broadcasts_S1x1024_S8x1024

/-- What a group adds to the accumulator, from its dot sum. -/
def addGroup (acc a : FVec F S8x1024 .f32) (ls z : Vec F S1x8x128 .f32) (ws wz : Vec F S1x1024 .f32) : FVec F S8x1024 .f32 :=
  addf acc (mulf (rowAll ws) (subf (mulf a (rep8 ls)) (mulf (rowAll wz) (rep8 z))))

/-- The dot sum of the pair's first group. -/
def aFirst (dl : FVec F S32x1024 .f32) (dc : FVec F S16x1024 .f32) : FVec F S8x1024 .f32 :=
  addf (addf (extractStridedSlice S8x1024 ![0, 0] dl slices_S32x1024_o0_0_S8x1024)
    (extractStridedSlice S8x1024 ![16, 0] dl slices_S32x1024_o16_0_S8x1024))
    (extractStridedSlice S8x1024 ![0, 0] dc slices_S16x1024_o0_0_S8x1024)
/-- The dot sum of the pair's second group. -/
def aSecond (dl : FVec F S32x1024 .f32) (dc : FVec F S16x1024 .f32) : FVec F S8x1024 .f32 :=
  addf (addf (extractStridedSlice S8x1024 ![8, 0] dl slices_S32x1024_o8_0_S8x1024)
    (extractStridedSlice S8x1024 ![24, 0] dl slices_S32x1024_o24_0_S8x1024))
    (extractStridedSlice S8x1024 ![8, 0] dc slices_S16x1024_o8_0_S8x1024)

theorem inbPlane (b : Fin 2) (c : Fin 6) : ∀ a, (![b.val, 0, 128 * c.val] : Fin 3 → ℕ) a + S1x1024x128.size a ≤ S2x1024x768.size a := by
  revert b c; decide
theorem slicesRows (k : Fin 4) : S32x1024.Slices ![8 * k.val, 0] S8x1024 := by revert k; decide
theorem inbLin (p : Fin 24) : ∀ a, (![p.val, 0, 0] : Fin 3 → ℕ) a + S1x32x256.size a ≤ S24x32x256.size a := by revert p; decide
theorem inbCub (p : Fin 24) : ∀ a, (![p.val, 0, 0] : Fin 3 → ℕ) a + S1x16x256.size a ≤ S24x16x256.size a := by revert p; decide
theorem inbGrp (g : Fin 48) : ∀ a, (![g.val, 0, 0] : Fin 3 → ℕ) a + S1x8x128.size a ≤ S48x8x128.size a := by revert g; decide
theorem inbRow (g : Fin 48) : ∀ a, (![g.val, 0] : Fin 2 → ℕ) a + S1x1024.size a ≤ S48x1024.size a := by revert g; decide

section
variable (x1 : Vec F S2x1024x768 .i8) (x2 x3 : Vec F S48x1024 .f32)
  (s8 : Vec F S24x32x256 .bf16) (s9 : Vec F S24x16x256 .bf16) (s10 s11 : Vec F S48x8x128 .f32)

/-- The words of plane `b` for pair `p`. -/
def pairWords (b : Fin 2) (p : Fin 24) : IVec S8x1024 32 :=
  extractStridedSlice S8x1024 ![8 * (p.val % 4), 0]
    (planeWords (F := F) (ld x1 (Rect.unit (s := S2x1024x768) ![b.val, 0, 128 * (p.val / 4)] S1x1024x128.size
      (inbPlane b ⟨p.val / 4, by omega⟩)))) (slicesRows ⟨p.val % 4, Nat.mod_lt _ (by decide)⟩)

def pairEven (p : Fin 24) : IVec S8x1024 32 := weven (pairWords x1 0 p) (pairWords x1 1 p)
def pairOdd (p : Fin 24) : IVec S8x1024 32 := wodd (pairWords x1 0 p) (pairWords x1 1 p)

def pairLin (p : Fin 24) : FVec F S32x1024 .f32 :=
  dotLin (ld s8 (Rect.unit (s := S24x32x256) ![p.val, 0, 0] S1x32x256.size (inbLin p))) (linFeat (pairEven x1 p) (pairOdd x1 p))
def pairCub (p : Fin 24) : FVec F S16x1024 .f32 :=
  dotCub (ld s9 (Rect.unit (s := S24x16x256) ![p.val, 0, 0] S1x16x256.size (inbCub p))) (cubFeat (pairEven x1 p) (pairOdd x1 p))

def grpRow (s : Vec F S48x8x128 .f32) (g : Fin 48) : Vec F S1x8x128 .f32 :=
  ld s (Rect.unit (s := S48x8x128) ![g.val, 0, 0] S1x8x128.size (inbGrp g))
def wRow (x : Vec F S48x1024 .f32) (g : Fin 48) : Vec F S1x1024 .f32 :=
  ld x (Rect.unit (s := S48x1024) ![g.val, 0] S1x1024.size (inbRow g))

/-- What one pair adds to the accumulator. -/
def pairStep (acc : FVec F S8x1024 .f32) (p : Fin 24) : FVec F S8x1024 .f32 :=
  addGroup
    (addGroup acc (aFirst (pairLin x1 s8 p) (pairCub x1 s9 p)) (grpRow s10 ⟨2 * p.val, by omega⟩) (grpRow s11 ⟨2 * p.val, by omega⟩)
      (wRow x2 ⟨2 * p.val, by omega⟩) (wRow x3 ⟨2 * p.val, by omega⟩))
    (aSecond (pairLin x1 s8 p) (pairCub x1 s9 p)) (grpRow s10 ⟨2 * p.val + 1, by omega⟩) (grpRow s11 ⟨2 * p.val + 1, by omega⟩)
    (wRow x2 ⟨2 * p.val + 1, by omega⟩) (wRow x3 ⟨2 * p.val + 1, by omega⟩)

/-- The accumulator after the first `n` pairs. -/
def accOf : (n : ℕ) → n ≤ 24 → FVec F S8x1024 .f32
  | 0, _ => broadcast S8x1024 (Scalar.ofBits .f32 0x00000000#32)
  | n + 1, h => pairStep x1 x2 x3 s8 s9 s10 s11 (accOf n (Nat.le_of_succ_le h)) ⟨n, h⟩

/-- The block of `y`. -/
def yBlock : Vec F S5x1024 .bf16 :=
  truncf .bf16 (extractStridedSlice S5x1024 ![0, 0] (accOf x1 x2 x3 s8 s9 s10 s11 24 le_rfl) slices_S8x1024_o0_0_S5x1024) bitsLt_bf16_f32

end

end Cert.KernelIdeal.Hand

end
-- ==== Proof.Table.lean ====
/-
  What the first grid point computes from `x`: the eight signed tables of every four activations, a group's scale,
  the codes, their Walsh sums, and the arrays the point leaves in the scratch buffers and in two results.
-/
module

public import Idealize.ShloMosaic.Lib.Pointwise.Index
public import proofs.«01_k».proof.Proof.Steps

@[expose] public section

set_option maxRecDepth 16384

noncomputable section

namespace Cert.KernelIdeal.Hand

open Cert.KernelIdeal Cert.KernelIdeal.Gen
open Idealize.ShloMosaic Idealize.ShloMosaic.TcCoe
open Idealize.ShloMosaic.View (ld)

variable {F : FTy → Type} [FloatOps F]

/-- A float constant in every lane. -/
def lanes (b : BitVec 32) : FVec F S8x128 .f32 := broadcast S8x128 (Scalar.ofBits .f32 b)
/-- An integer in every lane. -/
def ilanes (n : ℕ) : IVec S8x128 32 := broadcast S8x128 (BitVec.ofNat 32 n)
/-- The lane's number. -/
def laneNo : IVec S8x128 32 := iota .tc S8x128 32 [1] iota_S8x128_d1_w32

/-- The activations: row `8 c + t`, column `128 i + l` is activation `4 (128 c + l) + i` of token `t`. -/
def acts (x0 : Vec F S5x6144 .bf16) : FVec F S96x512 .f32 :=
  k0_pay12 (k0_pay7 (ld x0 (Rect.unit (s := S5x6144) ![0, 0] S5x6144.size inb_S5x6144_S5x6144_0_0)))
    (iota .tc S512x512 32 [0] iota_S512x512_d0_w32) (iota .tc S512x512 32 [1] iota_S512x512_d1_w32)
    (Scalar.select (Scalar.cmpi .eq 128#32 0#32) 1#32 128#32) k0_pay8 k0_pay9 k0_pay10 k0_pay11

theorem slicesActs (c : Fin 12) (i : Fin 4) : S96x512.Slices ![8 * c.val, 128 * i.val] S8x128 := by revert c i; decide

/-- Activation `i` of the four, over the chunk's 128 lanes. -/
def actOf (x0 : Vec F S5x6144 .bf16) (c : Fin 12) (i : Fin 4) : FVec F S8x128 .f32 :=
  extractStridedSlice S8x128 ![8 * c.val, 128 * i.val] (acts x0) (slicesActs c i)

/-- One activation, with its sign, onto a table entry. -/
def signed (b : Bool) (t a : FVec F S8x128 .f32) : FVec F S8x128 .f32 := bif b then addf t a else subf t a

/-- Table entry `e`: the four activations, added where the bit of `e` is set and subtracted where it is not. -/
def tabOf (x0 : Vec F S5x6144 .bf16) (c : Fin 12) (e : Fin 8) : FVec F S8x128 .f32 :=
  signed (e.val.testBit 3) (signed (e.val.testBit 2) (signed (e.val.testBit 1) (signed (e.val.testBit 0) (lanes 0x00000000#32)
    (actOf x0 c 0)) (actOf x0 c 1)) (actOf x0 c 2)) (actOf x0 c 3)

/-- The value in the lane whose number differs in the bit `k`. -/
def partner (k : ℕ) (v : FVec F S8x128 .f32) : FVec F S8x128 .f32 :=
  select (cmpi .ne (andi laneNo (ilanes k)) (ilanes 0))
    (dynamicRotate 1 (BitVec.ofNat 32 k) none v rotates_S8x128_d1) (dynamicRotate 1 (BitVec.ofNat 32 (128 - k)) none v rotates_S8x128_d1)

/-- One operation over the 32 lanes of a group, by five exchanges. -/
def groupFold (op : FVec F S8x128 .f32 → FVec F S8x128 .f32 → FVec F S8x128 .f32) (v : FVec F S8x128 .f32) : FVec F S8x128 .f32 :=
  have v1 := op v (partner 1 v)
  have v2 := op v1 (partner 2 v1)
  have v3 := op v2 (partner 4 v2)
  have v4 := op v3 (partner 8 v3)
  op v4 (partner 16 v4)

/-- The greatest magnitude in a lane's eight entries. -/
def laneMax (x0 : Vec F S5x6144 .bf16) (c : Fin 12) : FVec F S8x128 .f32 :=
  maximumf (maximumf (maximumf (maximumf (maximumf (maximumf (maximumf (absf (tabOf x0 c 0)) (absf (tabOf x0 c 1)))
    (absf (tabOf x0 c 2))) (absf (tabOf x0 c 3))) (absf (tabOf x0 c 4))) (absf (tabOf x0 c 5))) (absf (tabOf x0 c 6)))
    (absf (tabOf x0 c 7))

/-- The scale of a lane's group. -/
def scaleOf (x0 : Vec F S5x6144 .bf16) (c : Fin 12) : FVec F S8x128 .f32 :=
  have m := groupFold maximumf (laneMax x0 c)
  select (cmpf .oeq m (lanes 0x00000000#32)) (lanes 0x3F800000#32) (divf m (lanes 0x42FE0000#32))

/-- The code of table entry `e`. -/
def codeOf (x0 : Vec F S5x6144 .bf16) (c : Fin 12) (e : Fin 8) : FVec F S8x128 .f32 :=
  minimumf (lanes 0x42FE0000#32) (maximumf (lanes 0xC2FE0000#32) (roundeven (divf (tabOf x0 c e) (scaleOf x0 c))))

/-- Minus the sum of the codes of entry 0 over a lane's group. -/
def zsumOf (x0 : Vec F S5x6144 .bf16) (c : Fin 12) : FVec F S8x128 .f32 :=
  subf (lanes 0x00000000#32) (groupFold addf (codeOf x0 c 0))

/-- The Walsh sum of eight values: added where `b` is false, `hi - lo` where it is true, bit by bit. -/
def had (b : Bool) (lo hi : FVec F S8x128 .f32) : FVec F S8x128 .f32 := bif b then subf hi lo else addf lo hi

/-- The Walsh sum number `k` of the codes. -/
def walsh (x0 : Vec F S5x6144 .bf16) (c : Fin 12) (k : Fin 8) : FVec F S8x128 .f32 :=
  had (k.val.testBit 2)
    (had (k.val.testBit 1) (had (k.val.testBit 0) (codeOf x0 c 0) (codeOf x0 c 1)) (had (k.val.testBit 0) (codeOf x0 c 2) (codeOf x0 c 3)))
    (had (k.val.testBit 1) (had (k.val.testBit 0) (codeOf x0 c 4) (codeOf x0 c 5)) (had (k.val.testBit 0) (codeOf x0 c 6) (codeOf x0 c 7)))

/-- The negated Walsh sum number `k`. -/
def nwalsh (x0 : Vec F S5x6144 .bf16) (c : Fin 12) (k : Fin 8) : FVec F S8x128 .f32 :=
  subf (lanes 0x00000000#32) (walsh x0 c k)

/-- The lanes of `v` that `idx` names. -/
def pick (v : FVec F S8x128 .f32) (idx : IVec S8x128 32) : FVec F S8x128 .f32 :=
  dynamicGather 1 v
    (shapeCast S8x128 (shapeCast S8x128x1 (select (cmpi .slt idx (ilanes 0)) (addi idx (ilanes 128)) idx : IVec S8x128 32)
      shapeCasts_S8x128_S8x128x1 : IVec S8x128x1 32) shapeCasts_S8x128x1_S8x128 : IVec S8x128 32)

/-- The scale of group `q` of the chunk, in every lane. -/
def grpScale (x0 : Vec F S5x6144 .bf16) (c : Fin 12) (q : Fin 4) : FVec F S8x128 .f32 := pick (scaleOf x0 c) (ilanes (32 * q.val))

/-- What the point stores of a group's scale. -/
def lsPiece (x0 : Vec F S5x6144 .bf16) (c : Fin 12) (q : Fin 4) : FVec F S1x8x128 .f32 :=
  shapeCast S1x8x128 (mulf (grpScale x0 c q) (lanes 0x42800000#32) : FVec F S8x128 .f32) shapeCasts_S8x128_S1x8x128
/-- What the point stores of a group's code sum. -/
def zPiece (x0 : Vec F S5x6144 .bf16) (c : Fin 12) (q : Fin 4) : FVec F S1x8x128 .f32 :=
  shapeCast S1x8x128 (mulf (grpScale x0 c q) (pick (zsumOf x0 c) (ilanes (32 * q.val))) : FVec F S8x128 .f32) shapeCasts_S8x128_S1x8x128

/-- The lane's feature, 0 to 3. -/
def featNo : IVec S8x128 32 := k0_pay2
/-- The lane's byte within the pair of groups. -/
def byteNo : IVec S8x128 32 := k0_pay3
/-- Whether the lane's byte belongs to the pair's first group. -/
def isFirst : IVec S8x128 1 := k0_pay4

/-- The number, within the chunk, of the lane's nibble `h` of pair `q`. -/
def nibNo (q h : Fin 2) : IVec S8x128 32 :=
  addi (addi (ilanes (64 * q.val)) (muli (ilanes 2) byteNo)) (ilanes h.val)

/-- One of four values, by the lane's feature. -/
def byFeat (a b c d : FVec F S8x128 .f32) : FVec F S8x128 .f32 :=
  select (cmpi .eq featNo (ilanes 2)) c (select (cmpi .eq featNo (ilanes 1)) b (select (cmpi .eq featNo (ilanes 0)) a d))

/-- The coefficients of the linear features. -/
def linVal (x0 : Vec F S5x6144 .bf16) (c : Fin 12) (q h : Fin 2) : FVec F S8x128 .f32 :=
  byFeat (mulf (pick (walsh x0 c 1) (nibNo q h)) (lanes 0x3F800000#32)) (mulf (pick (walsh x0 c 4) (nibNo q h)) (lanes 0x3E800000#32))
    (mulf (pick (walsh x0 c 2) (nibNo q h)) (lanes 0x3F800000#32)) (mulf (pick (nwalsh x0 c 0) (nibNo q h)) (lanes 0x3E800000#32))
/-- The coefficients of the cubic features. -/
def cubVal (x0 : Vec F S5x6144 .bf16) (c : Fin 12) (q h : Fin 2) : FVec F S8x128 .f32 :=
  byFeat (mulf (pick (nwalsh x0 c 5) (nibNo q h)) (lanes 0x3F800000#32)) (mulf (pick (nwalsh x0 c 6) (nibNo q h)) (lanes 0x3F800000#32))
    (mulf (pick (walsh x0 c 7) (nibNo q h)) (lanes 0x3E800000#32)) (mulf (pick (nwalsh x0 c 3) (nibNo q h)) (lanes 0x3E800000#32))

/-- The step a linear coefficient is split at. -/
def stepOf : FVec F S8x128 .f32 := k0_pay6 featNo 0#32
/-- A linear coefficient's multiple of the step. -/
def hiOf (v : FVec F S8x128 .f32) : FVec F S8x128 .f32 := mulf (roundeven (divf v stepOf)) stepOf
/-- The value in the lanes of the pair's first group, zero elsewhere. -/
def inFirst (v : FVec F S8x128 .f32) : FVec F S8x128 .f32 := select isFirst v (lanes 0x00000000#32)
/-- The value in the lanes of the pair's second group, zero elsewhere. -/
def inSecond (v : FVec F S8x128 .f32) : FVec F S8x128 .f32 := select isFirst (lanes 0x00000000#32) v

/-- What the point stores of the linear coefficients. -/
def linPiece (x0 : Vec F S5x6144 .bf16) (c : Fin 12) (q h : Fin 2) : FVec F S1x32x128 .bf16 :=
  have v := linVal x0 c q h
  have hi := hiOf v
  have lo : FVec F S8x128 .f32 := subf v hi
  shapeCast S1x32x128 (truncf .bf16 (concatenate S32x128 0 [⟨S8x128, inFirst hi⟩, ⟨S8x128, inSecond hi⟩, ⟨S8x128, inFirst lo⟩, ⟨S8x128, inSecond lo⟩]
    concatenates_S8x128_S8x128_S8x128_S8x128_S32x128_d0 : FVec F S32x128 .f32) bitsLt_bf16_f32 : FVec F S32x128 .bf16) shapeCasts_S32x128_S1x32x128
/-- What the point stores of the cubic coefficients. -/
def cubPiece (x0 : Vec F S5x6144 .bf16) (c : Fin 12) (q h : Fin 2) : FVec F S1x16x128 .bf16 :=
  have v := cubVal x0 c q h
  shapeCast S1x16x128 (truncf .bf16 (concatenate S16x128 0 [⟨S8x128, inFirst v⟩, ⟨S8x128, inSecond v⟩]
    concatenates_S8x128_S8x128_S16x128_d0 : FVec F S16x128 .f32) bitsLt_bf16_f32 : FVec F S16x128 .bf16) shapeCasts_S16x128_S1x16x128
/-- What the point stores of the codes. -/
def codePiece (x0 : Vec F S5x6144 .bf16) (c : Fin 12) (e : Fin 8) : FVec F S8x1x128 .f32 :=
  shapeCast S8x1x128 (codeOf x0 c e) shapeCasts_S8x128_S8x1x128

/-- The scales of the first `n` groups, each in the lane of its number. -/
def scalesUpTo (x0 : Vec F S5x6144 .bf16) : (n : ℕ) → n ≤ 48 → FVec F S8x128 .f32
  | 0, _ => lanes 0x00000000#32
  | n + 1, h => select (cmpi .eq laneNo (ilanes n)) (grpScale x0 ⟨n / 4, by omega⟩ ⟨n % 4, Nat.mod_lt _ (by decide)⟩)
      (scalesUpTo x0 n (Nat.le_of_succ_le h))

/-! ## The arrays left -/

/-- The linear coefficients of all pairs. -/
def linTab (x0 : Vec F S5x6144 .bf16) : Vec F S24x32x256 .bf16 := fun y =>
  linPiece x0 ⟨(y 0).val / 2, by have : (y 0).val < 24 := (y 0).isLt; omega⟩ ⟨(y 0).val % 2, Nat.mod_lt _ (by decide)⟩
    ⟨(y 2).val / 128, by have : (y 2).val < 256 := (y 2).isLt; omega⟩
    (ix3 (0 : Fin 1) (y 1 : Fin 32) (⟨(y 2).val % 128, Nat.mod_lt _ (by decide)⟩ : Fin 128))
/-- The cubic coefficients of all pairs. -/
def cubTab (x0 : Vec F S5x6144 .bf16) : Vec F S24x16x256 .bf16 := fun y =>
  cubPiece x0 ⟨(y 0).val / 2, by have : (y 0).val < 24 := (y 0).isLt; omega⟩ ⟨(y 0).val % 2, Nat.mod_lt _ (by decide)⟩
    ⟨(y 2).val / 128, by have : (y 2).val < 256 := (y 2).isLt; omega⟩
    (ix3 (0 : Fin 1) (y 1 : Fin 16) (⟨(y 2).val % 128, Nat.mod_lt _ (by decide)⟩ : Fin 128))
/-- A row per group, stacked. -/
def grpTab (f : Fin 12 → Fin 4 → FVec F S1x8x128 .f32) : Vec F S48x8x128 .f32 := fun y =>
  f ⟨(y 0).val / 4, by have : (y 0).val < 48 := (y 0).isLt; omega⟩ ⟨(y 0).val % 4, Nat.mod_lt _ (by decide)⟩
    (ix3 (0 : Fin 1) (y 1 : Fin 8) (y 2 : Fin 128))
/-- The scales of all groups. -/
def lsTab (x0 : Vec F S5x6144 .bf16) : Vec F S48x8x128 .f32 := grpTab (lsPiece x0)
/-- The code sums of all groups. -/
def zTab (x0 : Vec F S5x6144 .bf16) : Vec F S48x8x128 .f32 := grpTab (zPiece x0)
/-- The codes as the scratch holds them. -/
def codeTab (x0 : Vec F S5x6144 .bf16) : Vec F S8x8x1536 .f32 := fun y =>
  codePiece x0 ⟨(y 2).val / 128, by have : (y 2).val < 1536 := (y 2).isLt; omega⟩ (y 1 : Fin 8)
    (ix3 (y 0 : Fin 8) (0 : Fin 1) (⟨(y 2).val % 128, Nat.mod_lt _ (by decide)⟩ : Fin 128))

theorem inbCode (t : Fin 8) : ∀ a, (![t.val, 0, 0] : Fin 3 → ℕ) a + S1x8x1536.size a ≤ S8x8x1536.size a := by revert t; decide

/-- The codes of one token as the result holds them. -/
def codeRow (x0 : Vec F S5x6144 .bf16) (t : Fin 8) : IVec S1x8x1536 8 :=
  k0_pay1593 (ld (codeTab x0) (Rect.unit (s := S8x8x1536) ![t.val, 0, 0] S1x8x1536.size (inbCode t)))
/-- The codes as the result holds them. -/
def codesOut (x0 : Vec F S5x6144 .bf16) : Vec F S5x8x1536 .i8 := fun y =>
  codeRow x0 ⟨(y 0).val, by have : (y 0).val < 5 := (y 0).isLt; omega⟩
    (ix3 (0 : Fin 1) (y 1 : Fin 8) (y 2 : Fin 1536))
/-- The scales as the result holds them. -/
def scalesOut (x0 : Vec F S5x6144 .bf16) : Vec F S5x1x48 .f32 := k0_pay1594 (scalesUpTo x0 48 le_rfl)

end Cert.KernelIdeal.Hand

end
-- ==== Proof.Pieces.lean ====
/-
  The stores of the first grid point, as lists of pieces, and the arrays they make: every piece is a block of its
  array, and together they cover it.
-/
module

public import Idealize.ShloMosaic.Lib.VecWindow
public import Idealize.ShloMosaic.Lib.Pipeline.ReadBack
public import proofs.«01_k».proof.Proof.Table

@[expose] public section

set_option maxRecDepth 16384

noncomputable section

namespace Cert.KernelIdeal.Hand

open Cert.KernelIdeal Cert.KernelIdeal.Gen
open Idealize.ShloMosaic Idealize.ShloMosaic.TcCoe
open Idealize.ShloMosaic.View (ld Piece PiecesOf)

variable {F : FTy → Type} [FloatOps F]

/-- Stores that are blocks of `G` and cover it leave `G`. -/
theorem read_pieces {κ : Kind} {sp : Space} {s : Shape} {e : EltTy} (v : View sig κ sp s e) (f : v.ty.Contents (Elt F))
    (L : List (Piece (Elt F) s e)) (G : s.Idx → Elt F e) (h : PiecesOf G L) (hc : ∀ y, ∃ p ∈ L, y ∈ p.1.set) :
    v.read (Elt F) (v.writes (Elt F) f L) = G :=
  funext fun y => View.read_writes_apply_of_pieces v f G L h.mem y (hc y)

theorem inbLinStore (n : Fin 48) : ∀ a, (![n.val / 2, 0, 128 * (n.val % 2)] : Fin 3 → ℕ) a + S1x32x128.size a ≤ S24x32x256.size a := by
  revert n; decide
theorem inbCubStore (n : Fin 48) : ∀ a, (![n.val / 2, 0, 128 * (n.val % 2)] : Fin 3 → ℕ) a + S1x16x128.size a ≤ S24x16x256.size a := by
  revert n; decide
theorem inbCodeStore (n : Fin 96) : ∀ a, (![0, n.val % 8, 128 * (n.val / 8)] : Fin 3 → ℕ) a + S8x1x128.size a ≤ S8x8x1536.size a := by
  revert n; decide
theorem inbOutStore (n : Fin 5) : ∀ a, (![n.val, 0, 0] : Fin 3 → ℕ) a + S1x8x1536.size a ≤ S5x8x1536.size a := by
  revert n; decide

variable (x0 : Vec F S5x6144 .bf16)

/-- The first `n` stores of linear coefficients, the last first. -/
def linPieces : (n : ℕ) → n ≤ 48 → List (Piece (Elt F) S24x32x256 .bf16)
  | 0, _ => []
  | n + 1, h => ⟨Rect.unit ![n / 2, 0, 128 * (n % 2)] S1x32x128.size (inbLinStore ⟨n, h⟩),
      linPiece x0 ⟨n / 4, by omega⟩ ⟨n / 2 % 2, Nat.mod_lt _ (by decide)⟩ ⟨n % 2, Nat.mod_lt _ (by decide)⟩⟩ :: linPieces n (Nat.le_of_succ_le h)
/-- The first `n` stores of cubic coefficients, the last first. -/
def cubPieces : (n : ℕ) → n ≤ 48 → List (Piece (Elt F) S24x16x256 .bf16)
  | 0, _ => []
  | n + 1, h => ⟨Rect.unit ![n / 2, 0, 128 * (n % 2)] S1x16x128.size (inbCubStore ⟨n, h⟩),
      cubPiece x0 ⟨n / 4, by omega⟩ ⟨n / 2 % 2, Nat.mod_lt _ (by decide)⟩ ⟨n % 2, Nat.mod_lt _ (by decide)⟩⟩ :: cubPieces n (Nat.le_of_succ_le h)
/-- The first `n` stores of a per-group row, the last first. -/
def grpPieces (f : Fin 12 → Fin 4 → FVec F S1x8x128 .f32) : (n : ℕ) → n ≤ 48 → List (Piece (Elt F) S48x8x128 .f32)
  | 0, _ => []
  | n + 1, h => ⟨Rect.unit ![n, 0, 0] S1x8x128.size (inbGrp ⟨n, h⟩),
      f ⟨n / 4, by omega⟩ ⟨n % 4, Nat.mod_lt _ (by decide)⟩⟩ :: grpPieces f n (Nat.le_of_succ_le h)
/-- The first `n` stores of codes, the last first. -/
def codePieces : (n : ℕ) → n ≤ 96 → List (Piece (Elt F) S8x8x1536 .f32)
  | 0, _ => []
  | n + 1, h => ⟨Rect.unit ![0, n % 8, 128 * (n / 8)] S8x1x128.size (inbCodeStore ⟨n, h⟩),
      codePiece x0 ⟨n / 8, by omega⟩ ⟨n % 8, Nat.mod_lt _ (by decide)⟩⟩ :: codePieces n (Nat.le_of_succ_le h)
/-- The first `n` stores of the codes' result, from the rows they are taken from, the last first. -/
def outPieces (r : Fin 8 → Vec F S1x8x1536 .f32) : (n : ℕ) → n ≤ 5 → List (Piece (Elt F) S5x8x1536 .i8)
  | 0, _ => []
  | n + 1, h => ⟨Rect.unit ![n, 0, 0] S1x8x1536.size (inbOutStore ⟨n, h⟩), k0_pay1593 (r ⟨n, by omega⟩)⟩ :: outPieces r n (Nat.le_of_succ_le h)
/-- The row of codes of one token. -/
def tokenRow (t : Fin 8) : Vec F S1x8x1536 .f32 :=
  ld (codeTab x0) (Rect.unit (s := S8x8x1536) ![t.val, 0, 0] S1x8x1536.size (inbCode t))

theorem linPieces_of : ∀ (n : ℕ) (h : n ≤ 48), PiecesOf (linTab x0) (linPieces x0 n h)
  | 0, _ => trivial
  | n + 1, h => ⟨fun x => by
      have h0 : (x 0).val < 1 := (x 0).isLt
      have h2 : (x 2).val < 128 := (x 2).isLt
      refine congr (congr (congr (congrArg (linPiece x0) (Fin.ext ?_)) (Fin.ext ?_)) (Fin.ext ?_)) ((eq_ix3 (n0 := 1) (n1 := 32) (n2 := 128) x).trans ?_)
      · show n / 4 = (n / 2 + 1 * (x 0).val) / 2; omega
      · show n / 2 % 2 = (n / 2 + 1 * (x 0).val) % 2; omega
      · show n % 2 = (128 * (n % 2) + 1 * (x 2).val) / 128; omega
      · refine (ix3_inj _ _ _ _ _ _).2 ⟨Fin.ext ?_, Fin.ext ?_, Fin.ext ?_⟩
        · show (x 0).val = 0; omega
        · show (x 1).val = 0 + 1 * (x 1).val; omega
        · show (x 2).val = (128 * (n % 2) + 1 * (x 2).val) % 128; omega, linPieces_of n _⟩

theorem cubPieces_of : ∀ (n : ℕ) (h : n ≤ 48), PiecesOf (cubTab x0) (cubPieces x0 n h)
  | 0, _ => trivial
  | n + 1, h => ⟨fun x => by
      have h0 : (x 0).val < 1 := (x 0).isLt
      have h2 : (x 2).val < 128 := (x 2).isLt
      refine congr (congr (congr (congrArg (cubPiece x0) (Fin.ext ?_)) (Fin.ext ?_)) (Fin.ext ?_)) ((eq_ix3 (n0 := 1) (n1 := 16) (n2 := 128) x).trans ?_)
      · show n / 4 = (n / 2 + 1 * (x 0).val) / 2; omega
      · show n / 2 % 2 = (n / 2 + 1 * (x 0).val) % 2; omega
      · show n % 2 = (128 * (n % 2) + 1 * (x 2).val) / 128; omega
      · refine (ix3_inj _ _ _ _ _ _).2 ⟨Fin.ext ?_, Fin.ext ?_, Fin.ext ?_⟩
        · show (x 0).val = 0; omega
        · show (x 1).val = 0 + 1 * (x 1).val; omega
        · show (x 2).val = (128 * (n % 2) + 1 * (x 2).val) % 128; omega, cubPieces_of n _⟩

theorem grpPieces_of (f : Fin 12 → Fin 4 → FVec F S1x8x128 .f32) : ∀ (n : ℕ) (h : n ≤ 48), PiecesOf (grpTab f) (grpPieces f n h)
  | 0, _ => trivial
  | n + 1, h => ⟨fun x => by
      have h0 : (x 0).val < 1 := (x 0).isLt
      refine congr (congr (congrArg f (Fin.ext ?_)) (Fin.ext ?_)) ((eq_ix3 (n0 := 1) (n1 := 8) (n2 := 128) x).trans ?_)
      · show n / 4 = (n + 1 * (x 0).val) / 4; omega
      · show n % 4 = (n + 1 * (x 0).val) % 4; omega
      · refine (ix3_inj _ _ _ _ _ _).2 ⟨Fin.ext ?_, Fin.ext ?_, Fin.ext ?_⟩
        · show (x 0).val = 0; omega
        · show (x 1).val = 0 + 1 * (x 1).val; omega
        · show (x 2).val = 0 + 1 * (x 2).val; omega, grpPieces_of f n _⟩

theorem codePieces_of : ∀ (n : ℕ) (h : n ≤ 96), PiecesOf (codeTab x0) (codePieces x0 n h)
  | 0, _ => trivial
  | n + 1, h => ⟨fun x => by
      have h1 : (x 1).val < 1 := (x 1).isLt
      have h2 : (x 2).val < 128 := (x 2).isLt
      refine congr (congr (congrArg (codePiece x0) (Fin.ext ?_)) (Fin.ext ?_)) ((eq_ix3 (n0 := 8) (n1 := 1) (n2 := 128) x).trans ?_)
      · show n / 8 = (128 * (n / 8) + 1 * (x 2).val) / 128; omega
      · show n % 8 = n % 8 + 1 * (x 1).val; omega
      · refine (ix3_inj _ _ _ _ _ _).2 ⟨Fin.ext ?_, Fin.ext ?_, Fin.ext ?_⟩
        · show (x 0).val = 0 + 1 * (x 0).val; omega
        · show (x 1).val = 0; omega
        · show (x 2).val = (128 * (n / 8) + 1 * (x 2).val) % 128; omega, codePieces_of n _⟩

theorem outPieces_of : ∀ (n : ℕ) (h : n ≤ 5), PiecesOf (codesOut x0) (outPieces (tokenRow x0) n h)
  | 0, _ => trivial
  | n + 1, h => ⟨fun x => by
      have h0 : (x 0).val < 1 := (x 0).isLt
      refine congr (congrArg (fun t => k0_pay1593 (tokenRow x0 t)) (Fin.ext ?_)) ((eq_ix3 (n0 := 1) (n1 := 8) (n2 := 1536) x).trans ?_)
      · show n = n + 1 * (x 0).val; omega
      · refine (ix3_inj _ _ _ _ _ _).2 ⟨Fin.ext ?_, Fin.ext ?_, Fin.ext ?_⟩
        · show (x 0).val = 0; omega
        · show (x 1).val = 0 + 1 * (x 1).val; omega
        · show (x 2).val = 0 + 1 * (x 2).val; omega, outPieces_of n _⟩

/-! ## Every index is in a piece -/

theorem linPieces_cover (y : S24x32x256.Idx) : ∀ (n : ℕ) (h : n ≤ 48), 2 * (y 0).val + (y 2).val / 128 < n → ∃ p ∈ linPieces x0 n h, y ∈ p.1.set
  | 0, _, hy => absurd hy (Nat.not_lt_zero _)
  | n + 1, h, hy => by
      rcases Nat.lt_or_ge (2 * (y 0).val + (y 2).val / 128) n with hlt | hge
      · obtain ⟨p, hp, hm⟩ := linPieces_cover y n (Nat.le_of_succ_le h) hlt
        exact ⟨p, List.mem_cons_of_mem _ hp, hm⟩
      · refine ⟨_, List.mem_cons_self, (Rect.mem_set_unit (inb := inbLinStore ⟨n, h⟩)).2 fun a => ?_⟩
        have h1 : (y 1).val < 32 := (y 1).isLt
        have h2 : (y 2).val < 256 := (y 2).isLt
        match a with
        | ⟨0, _⟩ => show n / 2 ≤ (y 0).val ∧ (y 0).val < n / 2 + 1; omega
        | ⟨1, _⟩ => show 0 ≤ (y 1).val ∧ (y 1).val < 0 + 32; omega
        | ⟨2, _⟩ => show 128 * (n % 2) ≤ (y 2).val ∧ (y 2).val < 128 * (n % 2) + 128; omega

theorem cubPieces_cover (y : S24x16x256.Idx) : ∀ (n : ℕ) (h : n ≤ 48), 2 * (y 0).val + (y 2).val / 128 < n → ∃ p ∈ cubPieces x0 n h, y ∈ p.1.set
  | 0, _, hy => absurd hy (Nat.not_lt_zero _)
  | n + 1, h, hy => by
      rcases Nat.lt_or_ge (2 * (y 0).val + (y 2).val / 128) n with hlt | hge
      · obtain ⟨p, hp, hm⟩ := cubPieces_cover y n (Nat.le_of_succ_le h) hlt
        exact ⟨p, List.mem_cons_of_mem _ hp, hm⟩
      · refine ⟨_, List.mem_cons_self, (Rect.mem_set_unit (inb := inbCubStore ⟨n, h⟩)).2 fun a => ?_⟩
        have h1 : (y 1).val < 16 := (y 1).isLt
        have h2 : (y 2).val < 256 := (y 2).isLt
        match a with
        | ⟨0, _⟩ => show n / 2 ≤ (y 0).val ∧ (y 0).val < n / 2 + 1; omega
        | ⟨1, _⟩ => show 0 ≤ (y 1).val ∧ (y 1).val < 0 + 16; omega
        | ⟨2, _⟩ => show 128 * (n % 2) ≤ (y 2).val ∧ (y 2).val < 128 * (n % 2) + 128; omega

theorem grpPieces_cover (f : Fin 12 → Fin 4 → FVec F S1x8x128 .f32) (y : S48x8x128.Idx) :
    ∀ (n : ℕ) (h : n ≤ 48), (y 0).val < n → ∃ p ∈ grpPieces f n h, y ∈ p.1.set
  | 0, _, hy => absurd hy (Nat.not_lt_zero _)
  | n + 1, h, hy => by
      rcases Nat.lt_or_ge (y 0).val n with hlt | hge
      · obtain ⟨p, hp, hm⟩ := grpPieces_cover f y n (Nat.le_of_succ_le h) hlt
        exact ⟨p, List.mem_cons_of_mem _ hp, hm⟩
      · refine ⟨_, List.mem_cons_self, (Rect.mem_set_unit (inb := inbGrp ⟨n, h⟩)).2 fun a => ?_⟩
        have h1 : (y 1).val < 8 := (y 1).isLt
        have h2 : (y 2).val < 128 := (y 2).isLt
        match a with
        | ⟨0, _⟩ => show n ≤ (y 0).val ∧ (y 0).val < n + 1; omega
        | ⟨1, _⟩ => show 0 ≤ (y 1).val ∧ (y 1).val < 0 + 8; omega
        | ⟨2, _⟩ => show 0 ≤ (y 2).val ∧ (y 2).val < 0 + 128; omega

theorem codePieces_cover (y : S8x8x1536.Idx) : ∀ (n : ℕ) (h : n ≤ 96), 8 * ((y 2).val / 128) + (y 1).val < n → ∃ p ∈ codePieces x0 n h, y ∈ p.1.set
  | 0, _, hy => absurd hy (Nat.not_lt_zero _)
  | n + 1, h, hy => by
      rcases Nat.lt_or_ge (8 * ((y 2).val / 128) + (y 1).val) n with hlt | hge
      · obtain ⟨p, hp, hm⟩ := codePieces_cover y n (Nat.le_of_succ_le h) hlt
        exact ⟨p, List.mem_cons_of_mem _ hp, hm⟩
      · refine ⟨_, List.mem_cons_self, (Rect.mem_set_unit (inb := inbCodeStore ⟨n, h⟩)).2 fun a => ?_⟩
        have h0 : (y 0).val < 8 := (y 0).isLt
        have h1 : (y 1).val < 8 := (y 1).isLt
        match a with
        | ⟨0, _⟩ => show 0 ≤ (y 0).val ∧ (y 0).val < 0 + 8; omega
        | ⟨1, _⟩ => show n % 8 ≤ (y 1).val ∧ (y 1).val < n % 8 + 1; omega
        | ⟨2, _⟩ => show 128 * (n / 8) ≤ (y 2).val ∧ (y 2).val < 128 * (n / 8) + 128; omega

theorem outPieces_cover (r : Fin 8 → Vec F S1x8x1536 .f32) (y : S5x8x1536.Idx) : ∀ (n : ℕ) (h : n ≤ 5), (y 0).val < n → ∃ p ∈ outPieces r n h, y ∈ p.1.set
  | 0, _, hy => absurd hy (Nat.not_lt_zero _)
  | n + 1, h, hy => by
      rcases Nat.lt_or_ge (y 0).val n with hlt | hge
      · obtain ⟨p, hp, hm⟩ := outPieces_cover r y n (Nat.le_of_succ_le h) hlt
        exact ⟨p, List.mem_cons_of_mem _ hp, hm⟩
      · refine ⟨_, List.mem_cons_self, (Rect.mem_set_unit (inb := inbOutStore ⟨n, h⟩)).2 fun a => ?_⟩
        have h1 : (y 1).val < 8 := (y 1).isLt
        have h2 : (y 2).val < 1536 := (y 2).isLt
        match a with
        | ⟨0, _⟩ => show n ≤ (y 0).val ∧ (y 0).val < n + 1; omega
        | ⟨1, _⟩ => show 0 ≤ (y 1).val ∧ (y 1).val < 0 + 8; omega
        | ⟨2, _⟩ => show 0 ≤ (y 2).val ∧ (y 2).val < 0 + 1536; omega

/-! ## The arrays the stores leave -/

section
variable {κ : Kind} {sp : Space}

theorem read_lin (v : View sig κ sp S24x32x256 .bf16) (f : v.ty.Contents (Elt F)) :
    v.read (Elt F) (v.writes (Elt F) f (linPieces x0 48 le_rfl)) = linTab x0 :=
  read_pieces v f _ _ (linPieces_of x0 48 le_rfl) fun y => linPieces_cover x0 y 48 le_rfl (by
    have h0 : (y 0).val < 24 := (y 0).isLt
    have h2 : (y 2).val < 256 := (y 2).isLt
    omega)
theorem read_cub (v : View sig κ sp S24x16x256 .bf16) (f : v.ty.Contents (Elt F)) :
    v.read (Elt F) (v.writes (Elt F) f (cubPieces x0 48 le_rfl)) = cubTab x0 :=
  read_pieces v f _ _ (cubPieces_of x0 48 le_rfl) fun y => cubPieces_cover x0 y 48 le_rfl (by
    have h0 : (y 0).val < 24 := (y 0).isLt
    have h2 : (y 2).val < 256 := (y 2).isLt
    omega)
theorem read_grp (g : Fin 12 → Fin 4 → FVec F S1x8x128 .f32) (v : View sig κ sp S48x8x128 .f32) (f : v.ty.Contents (Elt F)) :
    v.read (Elt F) (v.writes (Elt F) f (grpPieces g 48 le_rfl)) = grpTab g :=
  read_pieces v f _ _ (grpPieces_of g 48 le_rfl) fun y => grpPieces_cover g y 48 le_rfl (y 0).isLt
theorem read_code (v : View sig κ sp S8x8x1536 .f32) (B : LoadRect S8x8x1536) :
    v.readCov (codePieces x0 96 le_rfl) B = fun j => codeTab x0 (B.idx j) := by
  rw [View.readCov_eq_canon']
  funext j
  have := View.canon_append_of_piecesOf (codeTab x0) [] (codePieces x0 96 le_rfl) (codePieces_of x0 96 le_rfl) (B.idx j)
    (codePieces_cover x0 _ 96 le_rfl (by
      have h1 : ((B.idx j) 1).val < 8 := ((B.idx j) 1).isLt
      have h2 : ((B.idx j) 2).val < 1536 := ((B.idx j) 2).isLt
      omega))
  rwa [List.append_nil] at this
theorem read_out (v : View sig κ sp S5x8x1536 .i8) (f : v.ty.Contents (Elt F)) {κ' : Kind} {sp' : Space} (w : View sig κ' sp' S8x8x1536 .f32) :
    v.read (Elt F) (v.writes (Elt F) f (outPieces (fun t => w.readCov (codePieces x0 96 le_rfl)
      (Rect.unit (s := S8x8x1536) ![t.val, 0, 0] S1x8x1536.size (inbCode t)).toLoadRect) 5 le_rfl)) = codesOut x0 := by
  have e : (fun t : Fin 8 => w.readCov (codePieces x0 96 le_rfl)
      (Rect.unit (s := S8x8x1536) ![t.val, 0, 0] S1x8x1536.size (inbCode t)).toLoadRect) = tokenRow x0 := funext fun t => read_code x0 w _
  rw [e]
  exact read_pieces v f _ _ (outPieces_of x0 5 le_rfl) fun y => outPieces_cover (tokenRow x0) y 5 le_rfl (y 0).isLt
end

end Cert.KernelIdeal.Hand

end
-- ==== Proof.RunTable.lean ====
/-
  The run of the part of the body that fills the tables, at the grid point that runs it.
-/
module

public import Idealize.ShloMosaic.Lib.VecWindow
public import Idealize.ShloMosaic.Lib.Pipeline.ReadBack
public import proofs.«01_k».proof.Proof.Pieces

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The first 128 bytes of one plane, as the part loads them. -/
def planeTile (x1 : Vec F S2x1024x768 .i8) (b : Fin 2) : Vec F S1x1024x128 .i8 :=
  Idealize.ShloMosaic.View.ld x1 (Rect.unit (s := S2x1024x768) ![b.val, 0, 0] S1x1024x128.size (inbPlane b 0))

set_option maxHeartbeats 16000000 in
/-- The part that fills the tables, at the first grid point: it leaves the codes, the scales and the four tables of
    `x`, and returns the words of the block's first tile. -/
theorem tableRun (c : Dev nD) (i : grid0.Coords) (arg1 : Memref sig .tc .vmem S5x6144 .bf16) (harg1 : arg1.IsWhole) (arg2 : Memref sig .tc .vmem S2x1024x768 .i8) (harg2 : arg2.IsWhole) (arg3 : Memref sig .tc .vmem S48x1024 .f32) (harg3 : arg3.IsWhole) (arg4 : Memref sig .tc .vmem S48x1024 .f32) (harg4 : arg4.IsWhole) (arg5 : Memref sig .tc .vmem S5x1024 .bf16) (harg5 : arg5.IsWhole) (arg6 : Memref sig .tc .vmem S5x8x1536 .i8) (harg6 : arg6.IsWhole) (arg7 : Memref sig .tc .vmem S5x1x48 .f32) (harg7 : arg7.IsWhole) (arg8 : Memref sig .tc .vmem S24x32x256 .bf16) (harg8 : arg8.IsWhole) (arg9 : Memref sig .tc .vmem S24x16x256 .bf16) (harg9 : arg9.IsWhole) (arg10 : Memref sig .tc .vmem S48x8x128 .f32) (harg10 : arg10.IsWhole) (arg11 : Memref sig .tc .vmem S48x8x128 .f32) (harg11 : arg11.IsWhole) (arg12 : Memref sig .tc .vmem S8x8x1536 .f32) (harg12 : arg12.IsWhole)
    (hc0 : cond0_0 i) (E : Set ℕ)
    (f1 : BufTy.Contents (Elt F) arg1.view.ty) (f2 : BufTy.Contents (Elt F) arg2.view.ty) (f6 : BufTy.Contents (Elt F) arg6.view.ty)
    (f7 : BufTy.Contents (Elt F) arg7.view.ty) (f8 : BufTy.Contents (Elt F) arg8.view.ty) (f9 : BufTy.Contents (Elt F) arg9.view.ty)
    (f10 : BufTy.Contents (Elt F) arg10.view.ty) (f11 : BufTy.Contents (Elt F) arg11.view.ty) (f12 : BufTy.Contents (Elt F) arg12.view.ty) :
    (iprop((arg1.view.loc (c : Thread nD τ) ↦[arg1.view.set]{fullShare} f1) ∗ (arg2.view.loc (c : Thread nD τ) ↦[arg2.view.set]{fullShare} f2) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12)) : sProp 𝕄)
      ⊢ wp frame (wpE (defs₀ (F := F)) Variants.none c none) E (k0_part257 (F := F) i arg1 harg1 arg2 harg2 arg3 harg3 arg4 harg4 arg5 harg5 arg6 harg6 arg7 harg7 arg8 harg8 arg9 harg9 arg10 harg10 arg11 harg11 arg12 harg12)
        (fun r => iprop(⌜r.1 = k0_pay1595 (F := F)⌝ ∗ ⌜r.2.1 = k0_pay1596 (planeTile (View.read (Elt F) arg2.view f2) 0)⌝ ∗ ⌜r.2.2.1 = k0_pay1597 (planeTile (View.read (Elt F) arg2.view f2) 1)⌝ ∗ ⌜r.2.2.2.1 = k0_pay1601 (planeTile (View.read (Elt F) arg2.view f2) 0) (planeTile (View.read (Elt F) arg2.view f2) 1)⌝ ∗ ⌜r.2.2.2.2.1 = k0_pay1602 (planeTile (View.read (Elt F) arg2.view f2) 0) (planeTile (View.read (Elt F) arg2.view f2) 1)⌝ ∗ ⌜r.2.2.2.2.2.1 = k0_pay1603 (planeTile (View.read (Elt F) arg2.view f2) 0) (planeTile (View.read (Elt F) arg2.view f2) 1)⌝ ∗ ⌜r.2.2.2.2.2.2.1 = k0_pay1604 (planeTile (View.read (Elt F) arg2.view f2) 0) (planeTile (View.read (Elt F) arg2.view f2) 1)⌝ ∗ ⌜r.2.2.2.2.2.2.2.1 = k0_pay1605 (planeTile (View.read (Elt F) arg2.view f2) 0) (planeTile (View.read (Elt F) arg2.view f2) 1)⌝ ∗ ⌜r.2.2.2.2.2.2.2.2.1 = k0_pay1606 (planeTile (View.read (Elt F) arg2.view f2) 0) (planeTile (View.read (Elt F) arg2.view f2) 1)⌝ ∗ ⌜r.2.2.2.2.2.2.2.2.2.1 = k0_pay1608 (planeTile (View.read (Elt F) arg2.view f2) 0) (planeTile (View.read (Elt F) arg2.view f2) 1)⌝ ∗ ⌜r.2.2.2.2.2.2.2.2.2.2.1 = k0_pay1609 (planeTile (View.read (Elt F) arg2.view f2) 0) (planeTile (View.read (Elt F) arg2.view f2) 1)⌝ ∗ ⌜r.2.2.2.2.2.2.2.2.2.2.2.1 = k0_pay1610 (planeTile (View.read (Elt F) arg2.view f2) 0) (planeTile (View.read (Elt F) arg2.view f2) 1)⌝ ∗ ⌜r.2.2.2.2.2.2.2.2.2.2.2.2 = k0_pay1611 (planeTile (View.read (Elt F) arg2.view f2) 0) (planeTile (View.read (Elt F) arg2.view f2) 1)⌝
          ∗ (arg1.view.loc (c : Thread nD τ) ↦[arg1.view.set]{fullShare} f1) ∗ (arg2.view.loc (c : Thread nD τ) ↦[arg2.view.set]{fullShare} f2) ∗ (∃ g, ⌜View.read (Elt F) arg6.view g = codesOut (View.read (Elt F) arg1.view f1)⌝ ∗ (arg6.view.loc (c : Thread nD τ) ↦[arg6.view.set]{fullShare} g)) ∗ (∃ g, ⌜View.read (Elt F) arg7.view g = scalesOut (View.read (Elt F) arg1.view f1)⌝ ∗ (arg7.view.loc (c : Thread nD τ) ↦[arg7.view.set]{fullShare} g)) ∗ (∃ g, ⌜View.read (Elt F) arg8.view g = linTab (View.read (Elt F) arg1.view f1)⌝ ∗ (arg8.view.loc (c : Thread nD τ) ↦[arg8.view.set]{fullShare} g)) ∗ (∃ g, ⌜View.read (Elt F) arg9.view g = cubTab (View.read (Elt F) arg1.view f1)⌝ ∗ (arg9.view.loc (c : Thread nD τ) ↦[arg9.view.set]{fullShare} g)) ∗ (∃ g, ⌜View.read (Elt F) arg10.view g = lsTab (View.read (Elt F) arg1.view f1)⌝ ∗ (arg10.view.loc (c : Thread nD τ) ↦[arg10.view.set]{fullShare} g)) ∗ (∃ g, ⌜View.read (Elt F) arg11.view g = zTab (View.read (Elt F) arg1.view f1)⌝ ∗ (arg11.view.loc (c : Thread nD τ) ↦[arg11.view.set]{fullShare} g)) ∗ (∃ g, (arg12.view.loc (c : Thread nD τ) ↦[arg12.view.set]{fullShare} g)))) := by
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton]
  unfold k0_part257_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton]
  iintro ⟨H1, H2, H6, H7, H8, H9, H10, H11, H12⟩
  sl_exec (disch := first | sl_exact hc0)
  rw [wp_ret]
  imodintro
  isplitr; · ipureintro; rfl
  isplitr; · ipureintro; rfl
  isplitr; · ipureintro; rfl
  isplitr; · ipureintro; rfl
  isplitr; · ipureintro; rfl
  isplitr; · ipureintro; rfl
  isplitr; · ipureintro; rfl
  isplitr; · ipureintro; rfl
  isplitr; · ipureintro; rfl
  isplitr; · ipureintro; rfl
  isplitr; · ipureintro; rfl
  isplitr; · ipureintro; rfl
  isplitr; · ipureintro; rfl
  isplitl [H1]; · iexact H1
  isplitl [H2]; · iexact H2
  isplitl [H6]
  · iexists _; isplitr; swap; · iexact H6
    ipureintro
    show View.read (Elt F) arg6.view (arg6.view.writes (Elt F) f6 (outPieces (fun t => arg12.view.readCov (codePieces (View.read (Elt F) arg1.view f1) 96 le_rfl) (Rect.unit (s := S8x8x1536) ![t.val, 0, 0] S1x8x1536.size (inbCode t)).toLoadRect) 5 le_rfl)) = _
    exact read_out _ _ _ _
  isplitl [H7]
  · iexists _; isplitr; swap; · iexact H7
    ipureintro
    refine (Idealize.ShloMosaic.View.read_writes_full _ _ _ _ _).trans ?_
    rfl
  isplitl [H8]
  · iexists _; isplitr; swap; · iexact H8
    ipureintro
    show View.read (Elt F) arg8.view (arg8.view.writes (Elt F) f8 (linPieces (View.read (Elt F) arg1.view f1) 48 le_rfl)) = _
    exact read_lin _ _ _
  isplitl [H9]
  · iexists _; isplitr; swap; · iexact H9
    ipureintro
    show View.read (Elt F) arg9.view (arg9.view.writes (Elt F) f9 (cubPieces (View.read (Elt F) arg1.view f1) 48 le_rfl)) = _
    exact read_cub _ _ _
  isplitl [H10]
  · iexists _; isplitr; swap; · iexact H10
    ipureintro
    show View.read (Elt F) arg10.view (arg10.view.writes (Elt F) f10 (grpPieces (lsPiece (View.read (Elt F) arg1.view f1)) 48 le_rfl)) = _
    exact read_grp _ _ _
  isplitl [H11]
  · iexists _; isplitr; swap; · iexact H11
    ipureintro
    show View.read (Elt F) arg11.view (arg11.view.writes (Elt F) f11 (grpPieces (zPiece (View.read (Elt F) arg1.view f1)) 48 le_rfl)) = _
    exact read_grp _ _ _
  · iexists _; iexact H12

end Cert.KernelIdeal.Hand

end
-- ==== Proof.RunFirst.lean ====
/-
  The run of the body at the grid point that fills the tables.
-/
module

public import Idealize.ShloMosaic.Lib.VecWindow
public import proofs.«01_k».proof.Proof.RunTable

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 4000000 in
/-- The body at the first grid point: the tables of `x`, and the block of `y` from them. -/
theorem firstRun (c : Dev nD) (i : grid0.Coords) (arg1 : Memref sig .tc .vmem S5x6144 .bf16) (harg1 : arg1.IsWhole) (arg2 : Memref sig .tc .vmem S2x1024x768 .i8) (harg2 : arg2.IsWhole) (arg3 : Memref sig .tc .vmem S48x1024 .f32) (harg3 : arg3.IsWhole) (arg4 : Memref sig .tc .vmem S48x1024 .f32) (harg4 : arg4.IsWhole) (arg5 : Memref sig .tc .vmem S5x1024 .bf16) (harg5 : arg5.IsWhole) (arg6 : Memref sig .tc .vmem S5x8x1536 .i8) (harg6 : arg6.IsWhole) (arg7 : Memref sig .tc .vmem S5x1x48 .f32) (harg7 : arg7.IsWhole) (arg8 : Memref sig .tc .vmem S24x32x256 .bf16) (harg8 : arg8.IsWhole) (arg9 : Memref sig .tc .vmem S24x16x256 .bf16) (harg9 : arg9.IsWhole) (arg10 : Memref sig .tc .vmem S48x8x128 .f32) (harg10 : arg10.IsWhole) (arg11 : Memref sig .tc .vmem S48x8x128 .f32) (harg11 : arg11.IsWhole) (arg12 : Memref sig .tc .vmem S8x8x1536 .f32) (harg12 : arg12.IsWhole)
    (x0 : Vec F S5x6144 .bf16) (x1 : Vec F S2x1024x768 .i8) (x2 : Vec F S48x1024 .f32) (x3 : Vec F S48x1024 .f32)
    (hc0 : cond0_0 i) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (yBlock x1 x2 x3 (linTab x0) (cubTab x0) (lsTab x0) (zTab x0)) ∗ owns (c : Thread nD τ) arg6 fullShare (codesOut x0) ∗ owns (c : Thread nD τ) arg7 fullShare (scalesOut x0) ∗ owns (c : Thread nD τ) arg8 fullShare (linTab x0) ∗ owns (c : Thread nD τ) arg9 fullShare (cubTab x0) ∗ owns (c : Thread nD τ) arg10 fullShare (lsTab x0) ∗ owns (c : Thread nD τ) arg11 fullShare (zTab x0) ∗ (∃ d, owns (c : Thread nD τ) arg12 fullShare d)) -∗ K ⟨⟩))
          ⊢ wp frame (wpE (defs₀ (F := F)) Variants.none c none) E (cc0_mirror_lut_linear i arg1 harg1 arg2 harg2 arg3 harg3 arg4 harg4 arg5 harg5 arg6 harg6 arg7 harg7 arg8 harg8 arg9 harg9 arg10 harg10 arg11 harg11 arg12 harg12) K := by
    intro E K
    have hcut := tableRun (F := F) c i arg1 harg1 arg2 harg2 arg3 harg3 arg4 harg4 arg5 harg5 arg6 harg6 arg7 harg7 arg8 harg8 arg9 harg9 arg10 harg10 arg11 harg11 arg12 harg12 hc0 E
    simp only [cc0_mirror_lut_linear_eq_skeleton]; unfold cc0_mirror_lut_linear_skel
    simp only [k0_part324_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton]
    unfold k0_part324_skel
    simp only [k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton]
    unfold owns
    iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, Hk⟩
    subst hf1; subst hf2; subst hf3; subst hf4
    sl_exec
    rw [wp_ret]
    imodintro
    have e0 : k0_part257_r_1 = k0_pay1595 (F := F) := hk0_part257_0
    subst e0
    have e1 : k0_part257_r_2 = k0_pay1596 (planeTile (View.read (Elt F) arg2.view f2) 0) := hk0_part257_1
    subst e1
    have e2 : k0_part257_r_3 = k0_pay1597 (planeTile (View.read (Elt F) arg2.view f2) 1) := hk0_part257_2
    subst e2
    have e3 : k0_part257_r_4 = k0_pay1601 (planeTile (View.read (Elt F) arg2.view f2) 0) (planeTile (View.read (Elt F) arg2.view f2) 1) := hk0_part257_3
    subst e3
    have e4 : k0_part257_r_5 = k0_pay1602 (planeTile (View.read (Elt F) arg2.view f2) 0) (planeTile (View.read (Elt F) arg2.view f2) 1) := hk0_part257_4
    subst e4
    have e5 : k0_part257_r_6 = k0_pay1603 (planeTile (View.read (Elt F) arg2.view f2) 0) (planeTile (View.read (Elt F) arg2.view f2) 1) := hk0_part257_5
    subst e5
    have e6 : k0_part257_r_7 = k0_pay1604 (planeTile (View.read (Elt F) arg2.view f2) 0) (planeTile (View.read (Elt F) arg2.view f2) 1) := hk0_part257_6
    subst e6
    have e7 : k0_part257_r_8 = k0_pay1605 (planeTile (View.read (Elt F) arg2.view f2) 0) (planeTile (View.read (Elt F) arg2.view f2) 1) := hk0_part257_7
    subst e7
    have e8 : k0_part257_r_9 = k0_pay1606 (planeTile (View.read (Elt F) arg2.view f2) 0) (planeTile (View.read (Elt F) arg2.view f2) 1) := hk0_part257_8
    subst e8
    have e9 : k0_part257_r_10 = k0_pay1608 (planeTile (View.read (Elt F) arg2.view f2) 0) (planeTile (View.read (Elt F) arg2.view f2) 1) := hk0_part257_9
    subst e9
    have e10 : k0_part257_r_11 = k0_pay1609 (planeTile (View.read (Elt F) arg2.view f2) 0) (planeTile (View.read (Elt F) arg2.view f2) 1) := hk0_part257_10
    subst e10
    have e11 : k0_part257_r_12 = k0_pay1610 (planeTile (View.read (Elt F) arg2.view f2) 0) (planeTile (View.read (Elt F) arg2.view f2) 1) := hk0_part257_11
    subst e11
    have e12 : k0_part257_r_13 = k0_pay1611 (planeTile (View.read (Elt F) arg2.view f2) 0) (planeTile (View.read (Elt F) arg2.view f2) 1) := hk0_part257_12
    subst e12
    iapply Hk
    isplitl [Hk0_part257_13]
    · iexists _; isplitr; · ipureintro; rfl
      iexact Hk0_part257_13
    isplitl [Hk0_part257_14]
    · iexists _; isplitr; · ipureintro; rfl
      iexact Hk0_part257_14
    isplitl [H3]
    · iexists _; isplitr; · ipureintro; rfl
      iexact H3
    isplitl [H4]
    · iexists _; isplitr; · ipureintro; rfl
      iexact H4
    isplitl [H5]
    · iexists _; isplitr; swap; · iexact H5
      ipureintro
      rw [← hk0_part257_19, ← hk0_part257_21, ← hk0_part257_23, ← hk0_part257_25]
      refine (Idealize.ShloMosaic.View.read_writes_full _ _ _ _ _).trans ?_
      rfl
    isplitl [Hk0_part257_16]
    · iexists _; isplitr; · ipureintro; exact hk0_part257_15
      iexact Hk0_part257_16
    isplitl [Hk0_part257_18]
    · iexists _; isplitr; · ipureintro; exact hk0_part257_17
      iexact Hk0_part257_18
    isplitl [Hk0_part257_20]
    · iexists _; isplitr; · ipureintro; exact hk0_part257_19
      iexact Hk0_part257_20
    isplitl [Hk0_part257_22]
    · iexists _; isplitr; · ipureintro; exact hk0_part257_21
      iexact Hk0_part257_22
    isplitl [Hk0_part257_24]
    · iexists _; isplitr; · ipureintro; exact hk0_part257_23
      iexact Hk0_part257_24
    isplitl [Hk0_part257_26]
    · iexists _; isplitr; · ipureintro; exact hk0_part257_25
      iexact Hk0_part257_26
    · iexists _, _; isplitr; swap; · iexact Hk0_part257_27
      ipureintro; rfl

end Cert.KernelIdeal.Hand

end
-- ==== Proof.RunMain.lean ====
/-
  The run of the body at a grid point that does not fill the tables.
-/
module

public import Idealize.ShloMosaic.Lib.VecWindow
public import proofs.«01_k».proof.Proof.Steps

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 4000000 in
/-- The body at a later grid point: the block of `y` from the tables it finds. -/
theorem mainRun (c : Dev nD) (i : grid0.Coords) (arg1 : Memref sig .tc .vmem S5x6144 .bf16) (harg1 : arg1.IsWhole) (arg2 : Memref sig .tc .vmem S2x1024x768 .i8) (harg2 : arg2.IsWhole) (arg3 : Memref sig .tc .vmem S48x1024 .f32) (harg3 : arg3.IsWhole) (arg4 : Memref sig .tc .vmem S48x1024 .f32) (harg4 : arg4.IsWhole) (arg5 : Memref sig .tc .vmem S5x1024 .bf16) (harg5 : arg5.IsWhole) (arg6 : Memref sig .tc .vmem S5x8x1536 .i8) (harg6 : arg6.IsWhole) (arg7 : Memref sig .tc .vmem S5x1x48 .f32) (harg7 : arg7.IsWhole) (arg8 : Memref sig .tc .vmem S24x32x256 .bf16) (harg8 : arg8.IsWhole) (arg9 : Memref sig .tc .vmem S24x16x256 .bf16) (harg9 : arg9.IsWhole) (arg10 : Memref sig .tc .vmem S48x8x128 .f32) (harg10 : arg10.IsWhole) (arg11 : Memref sig .tc .vmem S48x8x128 .f32) (harg11 : arg11.IsWhole) (arg12 : Memref sig .tc .vmem S8x8x1536 .f32) (harg12 : arg12.IsWhole)
    (x1 : Vec F S2x1024x768 .i8) (x2 : Vec F S48x1024 .f32) (x3 : Vec F S48x1024 .f32)
    (s8 : Vec F S24x32x256 .bf16) (s9 : Vec F S24x16x256 .bf16) (s10 : Vec F S48x8x128 .f32) (s11 : Vec F S48x8x128 .f32)
    (hc0 : ¬ cond0_0 i) :
      ∀ (E : Set ℕ) (K : PUnit → sProp 𝕄),
        iprop(owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg8 fullShare s8 ∗ owns (c : Thread nD τ) arg9 fullShare s9 ∗ owns (c : Thread nD τ) arg10 fullShare s10 ∗ owns (c : Thread nD τ) arg11 fullShare s11
            ∗ (iprop(owns (c : Thread nD τ) arg2 fullShare x1 ∗ owns (c : Thread nD τ) arg3 fullShare x2 ∗ owns (c : Thread nD τ) arg4 fullShare x3 ∗ owns (c : Thread nD τ) arg5 fullShare (yBlock x1 x2 x3 s8 s9 s10 s11) ∗ owns (c : Thread nD τ) arg8 fullShare s8 ∗ owns (c : Thread nD τ) arg9 fullShare s9 ∗ owns (c : Thread nD τ) arg10 fullShare s10 ∗ owns (c : Thread nD τ) arg11 fullShare s11) -∗ K ⟨⟩))
          ⊢ wp frame (wpE (defs₀ (F := F)) Variants.none c none) E (cc0_mirror_lut_linear i arg1 harg1 arg2 harg2 arg3 harg3 arg4 harg4 arg5 harg5 arg6 harg6 arg7 harg7 arg8 harg8 arg9 harg9 arg10 harg10 arg11 harg11 arg12 harg12) K := by
    intro E K
    simp only [cc0_mirror_lut_linear_eq_skeleton]; unfold cc0_mirror_lut_linear_skel
    simp only [k0_part324_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton]
    unfold owns
    iintro ⟨⟨%f1, %hf1, H1⟩, ⟨%f2, %hf2, H2⟩, ⟨%f3, %hf3, H3⟩, ⟨%d4, %f4, -, H4⟩, ⟨%fs0, %hs0, HS0⟩, ⟨%fs1, %hs1, HS1⟩, ⟨%fs2, %hs2, HS2⟩, ⟨%fs3, %hs3, HS3⟩, Hk⟩
    subst hf1; subst hf2; subst hf3; subst hs0; subst hs1; subst hs2; subst hs3
    sl_exec (disch := first | sl_exact hc0)
    rw [wp_ret]
    imodintro
    iapply Hk
    isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [H4]
    · iexists _; isplitr; swap; · iexact H4
      ipureintro
      refine (Idealize.ShloMosaic.View.read_writes_full _ _ _ _ _).trans ?_
      rfl
    isplitl [HS0]
    · iexists _; isplitr; · ipureintro; rfl
      iexact HS0
    isplitl [HS1]
    · iexists _; isplitr; · ipureintro; rfl
      iexact HS1
    isplitl [HS2]
    · iexists _; isplitr; · ipureintro; rfl
      iexact HS2
    · iexists _; isplitr; · ipureintro; rfl
      iexact HS3

end Cert.KernelIdeal.Hand

end
-- ==== Proof.RunFrame.lean ====
/-
  The run of the whole kernel with its result arrays named.  The invariant between grid points says that the four
  table buffers hold the tables of the input (after the first point); the three result windows hold what the body
  stored: the output block of the point, and the codes and the scales stored at the first point.
-/
module

public import proofs.«01_k».proof.Proof.RunFirst
public import proofs.«01_k».proof.Proof.RunMain
public import Idealize.ShloMosaic.Lib.Claim
public import Idealize.ShloMosaic.Lib.Pointwise.Index
public import Idealize.ShloMosaic.Lib.Pipeline.TableIdle
public import Idealize.ShloMosaic.Lib.Pipeline.ValueKit.Geometry

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The whole input, as the region finds it. -/
def xIn (c : Dev nD) : Vec F S5x6144 .bf16 := iblk m c 0 ⟨0, by decide⟩

/-- The input window is the whole input at every point. -/
theorem iblk0_eq (c : Dev nD) (t : Fin cfg0.N) : iblk m c 0 t = xIn m c := rfl

/-- The block of the output computed at point `t`. -/
def yOut (c : Dev nD) (t : Fin cfg0.N) : Vec F S5x1024 .bf16 :=
  yBlock (iblk m c 1 t) (iblk m c 2 t) (iblk m c 3 t) (linTab (xIn m c)) (cubTab (xIn m c)) (lsTab (xIn m c)) (zTab (xIn m c))

/-- The table buffers at the tables of `x`, the last scratch buffer and the generator register at anything. -/
def held (c : Dev nD) (x : Vec F S5x6144 .bf16) : sProp 𝕄 :=
  iprop(iprop(owns (c : Thread nD τ) scM0_0 fullShare (linTab x) ∗ owns (c : Thread nD τ) scM0_1 fullShare (cubTab x) ∗ owns (c : Thread nD τ) scM0_2 fullShare (lsTab x) ∗ owns (c : Thread nD τ) scM0_3 fullShare (zTab x) ∗ (∃ d, owns (c : Thread nD τ) scM0_4 fullShare d)) ∗ (∃ r, prngReg c r))

/-- The invariant before point `n`: anything at first, then the tables. -/
def carried (c : Dev nD) (n : ℕ) : sProp 𝕄 := if n = 0 then Pipeline.ΦA spec0 c else held c (xIn m c)

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => yOut m c t
    | ⟨5, _⟩ => codesOut (xIn m c)
    | ⟨6, _⟩ => scalesOut (xIn m c)
  Φ t := carried m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = yOut m c t := by dsimp only [dats]
theorem after0_5 (c : Dev nD) (t : Fin cfg0.N) : (dats m 0 c).after 5 t = codesOut (xIn m c) := by dsimp only [dats]
theorem after0_6 (c : Dev nD) (t : Fin cfg0.N) : (dats m 0 c).after 6 t = scalesOut (xIn m c) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The two results stored at the first point only -/

/-- Windows 5 and 6 hold what the first point stored at every later point: neither is written back before the last
    point, and both are left alone after the first. -/
theorem fresh_5 : ∀ n, n ≤ cfg0.N → cfg0.fresh 5 n = (n == 0 || n == 32) :=
  cfg0.fresh_tab 5 (fun n => n == 0 || n == 32) rfl
    (by decide +kernel : ∀ t : Fin grid0.N, ((t.val + 1 == 0 || t.val + 1 == 32) : Bool) = ((cfg0.win 5).flush t || (cfg0.idle 5 (grid0.coords t) && (t.val == 0 || t.val == 32))))
theorem fresh_6 : ∀ n, n ≤ cfg0.N → cfg0.fresh 6 n = (n == 0 || n == 32) :=
  cfg0.fresh_tab 6 (fun n => n == 0 || n == 32) rfl
    (by decide +kernel : ∀ t : Fin grid0.N, ((t.val + 1 == 0 || t.val + 1 == 32) : Bool) = ((cfg0.win 6).flush t || (cfg0.idle 6 (grid0.coords t) && (t.val == 0 || t.val == 32))))

theorem before0_5 (c : Dev nD) (t : Fin cfg0.N) (ht : t.val ≠ 0) (d) : (dats m 0 c).before 5 t d = codesOut (xIn m c) := by
  rw [(dats m 0 c).before_out_traj 5 rfl (fun _ _ => rfl) (fun t _ _ _ => by rw [after0_5, after0_5]) t.val t rfl d,
    fresh_5 _ (le_of_lt t.isLt), if_neg (by have := lt_of_lt_of_eq t.isLt (show cfg0.N = 32 from N_0); simp only [Bool.or_eq_true, beq_iff_eq]; omega), after0_5]
theorem before0_6 (c : Dev nD) (t : Fin cfg0.N) (ht : t.val ≠ 0) (d) : (dats m 0 c).before 6 t d = scalesOut (xIn m c) := by
  rw [(dats m 0 c).before_out_traj 6 rfl (fun _ _ => rfl) (fun t _ _ _ => by rw [after0_6, after0_6]) t.val t rfl d,
    fresh_6 _ (le_of_lt t.isLt), if_neg (by have := lt_of_lt_of_eq t.isLt (show cfg0.N = 32 from N_0); simp only [Bool.or_eq_true, beq_iff_eq]; omega), after0_6]

/-- A window left alone at a later point is handed back as it was found. -/
theorem leaves_5 (c : Dev nD) (t : Fin cfg0.N) (ht : t.val ≠ 0) (hi : cfg0.idle 5 (cfg0.grid.coords t) = true) (d) :
    (owns (c : Thread nD τ) (ms0_5 t) fullShare ((dats m 0 c).before 5 t d) : sProp 𝕄) ⊢ (dats m 0 c).leavesExact 5 t := by
  unfold Dat.leavesExact; rw [hi]
  cases hf : (cfg0.win 5).flush t
  · iintro H; iexists d; iexact H
  · rw [before0_5 m c t ht, after0_5]
theorem leaves_6 (c : Dev nD) (t : Fin cfg0.N) (ht : t.val ≠ 0) (hi : cfg0.idle 6 (cfg0.grid.coords t) = true) (d) :
    (owns (c : Thread nD τ) (ms0_6 t) fullShare ((dats m 0 c).before 6 t d) : sProp 𝕄) ⊢ (dats m 0 c).leavesExact 6 t := by
  unfold Dat.leavesExact; rw [hi]
  cases hf : (cfg0.win 6).flush t
  · iintro H; iexists d; iexact H
  · rw [before0_6 m c t ht, after0_6]

theorem idle_5 (t : Fin cfg0.N) : cfg0.idle 5 (cfg0.grid.coords t) = !(k0_cond1 (grid0.coords t) == 1#1) := rfl
theorem idle_6 (t : Fin cfg0.N) : cfg0.idle 6 (cfg0.grid.coords t) = !(k0_cond1 (grid0.coords t) == 1#1) := rfl
theorem liveAt0_4 : ∀ t : Fin cfg0.N, cfg0.idle 4 (cfg0.grid.coords t) = false := fun _ => rfl

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 2400000 in
/-- The body at any point: the first fills the tables and both one-off results, the others find the tables. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = carried m c (t.val + 1) from rfl, show (dats m 0 c).Φ t.castSucc = carried m c t.val from rfl]
  rw [show carried m c (t.val + 1) = held c (xIn m c) from if_neg (Nat.succ_ne_zero _)]
  have hN : t.val < 32 := lt_of_lt_of_eq t.isLt (show cfg0.N = 32 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  by_cases h0 : t.val % 32 = 0
  · have hc : cond0_0 (grid0.coords t) := (hcond0_0 t).mpr h0
    have hi5 : cfg0.idle 5 (cfg0.grid.coords t) = false := by rw [idle_5, show k0_cond1 (grid0.coords t) = 1#1 from hc]; rfl
    have hi6 : cfg0.idle 6 (cfg0.grid.coords t) = false := by rw [idle_6, show k0_cond1 (grid0.coords t) = 1#1 from hc]; rfl
    rw [show carried m c t.val = Pipeline.ΦA spec0 c from if_pos (by omega), PhiA0_eq]
    rw [show (dats m 0 c).leavesExact 5 t = owns (c : Thread nD τ) (ms0_5 t) fullShare ((dats m 0 c).after 5 t) from by
      unfold Dat.leavesExact; rw [hi5], after0_5]
    rw [show (dats m 0 c).leavesExact 6 t = owns (c : Thread nD τ) (ms0_6 t) fullShare ((dats m 0 c).after 6 t) from by
      unfold Dat.leavesExact; rw [hi6], after0_6]
    unfold held yOut
    rw [iblk0_eq]
    iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩⟩
    iapply ((firstRun c (grid0.coords t) _ _ _ _ _ _ _ _ _ _ _ _ _ _ _ _ _ _ _ _ _ _ _ _ (xIn m c) (iblk m c 1 t) (iblk m c 2 t) (iblk m c 3 t) hc) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexact HS0
    isplitl [HS1]; · iexact HS1
    isplitl [HS2]; · iexact HS2
    isplitl [HS3]; · iexact HS3
    isplitl [HS4]; · iexact HS4
    iintro ⟨H0, H1, H2, H3, H4, H5, H6, HS0, HS1, HS2, HS3, HS4⟩
    isplitl [HS0 HS1 HS2 HS3 HS4 Hg]
    · isplitl [HS0 HS1 HS2 HS3 HS4]
      · isplitl [HS0]
        · iexact HS0
        isplitl [HS1]
        · iexact HS1
        isplitl [HS2]
        · iexact HS2
        isplitl [HS3]
        · iexact HS3
        iexact HS4
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · have hc : ¬ cond0_0 (grid0.coords t) := fun h => h0 ((hcond0_0 t).mp h)
    have ht : t.val ≠ 0 := fun h => h0 (by rw [h])
    have hi5 : cfg0.idle 5 (cfg0.grid.coords t) = true := by rw [idle_5, beq_eq_false_iff_ne.mpr hc]; rfl
    have hi6 : cfg0.idle 6 (cfg0.grid.coords t) = true := by rw [idle_6, beq_eq_false_iff_ne.mpr hc]; rfl
    rw [show carried m c t.val = held c (xIn m c) from if_neg ht]
    unfold held yOut
    iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩⟩
    iapply ((mainRun c (grid0.coords t) _ _ _ _ _ _ _ _ _ _ _ _ _ _ _ _ _ _ _ _ _ _ _ _ (iblk m c 1 t) (iblk m c 2 t) (iblk m c 3 t) (linTab (xIn m c)) (cubTab (xIn m c)) (lsTab (xIn m c)) (zTab (xIn m c)) hc) Set.univ _)
    isplitl [H1]; · iexact H1
    isplitl [H2]; · iexact H2
    isplitl [H3]; · iexact H3
    isplitl [H4]; · iexists _; iexact H4
    isplitl [HS0]; · iexact HS0
    isplitl [HS1]; · iexact HS1
    isplitl [HS2]; · iexact HS2
    isplitl [HS3]; · iexact HS3
    iintro ⟨H1, H2, H3, H4, HS0, HS1, HS2, HS3⟩
    isplitl [HS0 HS1 HS2 HS3 HS4 Hg]
    · isplitl [HS0 HS1 HS2 HS3 HS4]
      · isplitl [HS0]
        · iexact HS0
        isplitl [HS1]
        · iexact HS1
        isplitl [HS2]
        · iexact HS2
        isplitl [HS3]
        · iexact HS3
        iexact HS4
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · iapply (leaves_5 m c t ht hi5 d5); iexact H5
    · iapply (leaves_6 m c t ht hi6 d6); iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

theorem carried_in (c : Dev nD) : Pipeline.ΦA (cfgs 0).spec c ⊢ (dats m 0 c).Φ 0 := .rfl

theorem carried_out (c : Dev nD) : (dats m 0 c).Φ (Fin.last (cfgs 0).N) ⊢ (Pipeline.ΦA (cfgs 0).spec c : sProp 𝕄) := by
  have e : (dats m 0 c).Φ (Fin.last (cfgs 0).N) = held c (xIn m c) :=
    show carried m c cfg0.N = _ from if_neg (by rw [show cfg0.N = 32 from N_0]; decide)
  rw [e,
    show (Pipeline.ΦA (cfgs 0).spec c : sProp 𝕄) = Pipeline.ΦA spec0 c from rfl, PhiA0_eq]
  unfold held
  iintro ⟨⟨HS0, HS1, HS2, HS3, HS4⟩, Hg⟩
  isplitl [HS0 HS1 HS2 HS3 HS4]
  · isplitl [HS0]
    · iexists _; iexact HS0
    isplitl [HS1]
    · iexists _; iexact HS1
    isplitl [HS2]
    · iexists _; iexact HS2
    isplitl [HS3]
    · iexists _; iexact HS3
    iexact HS4
  iexact Hg

set_option backward.isDefEq.respectTransparency.types false in
/-- Every run of @main ends, with the result arrays as the proof data says and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := carried_in m) (hout := carried_out m)
    (hQ' := fun _ h => h)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame claim. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  Idealize.ShloMosaic.θ_run_and (unchanged m ρ) ((θ_run defs _ _).mono (fun _ h => h.2) (run_main_quiescent m ρ))

/-! ## The result arrays -/

/-- The codes array is what the first point stored. -/
theorem codes_final (c : Dev nD) : (dats m 0 c).arrAt 5 cfg0.N = codesOut (xIn m c) := by
  refine (dats m 0 c).arrAt_eq_of_after_last 5 ⟨31, by decide⟩ (by decide +kernel) _ fun j => ?_
  rw [after0_5]; rfl

/-- The scales array is what the first point stored. -/
theorem scales_final (c : Dev nD) : (dats m 0 c).arrAt 6 cfg0.N = scalesOut (xIn m c) := by
  refine (dats m 0 c).arrAt_eq_of_after_last 6 ⟨31, by decide⟩ (by decide +kernel) _ fun j => ?_
  rw [after0_6]; rfl

/-- The output array: each column from the block of its grid point. -/
def yAll (c : Dev nD) : Vec F S5x32768 .bf16 := fun i =>
  yOut m c ⟨(i 1).val / 1024, by have h : (i 1).val < 32768 := (i 1).isLt; rw [show cfg0.N = 32 from N_0]; omega⟩
    (ix2 (i 0 : Fin 5) (⟨(i 1).val % 1024, Nat.mod_lt _ (by decide)⟩ : Fin 1024))

theorem index_4 : ∀ t : Fin cfg0.N, win0_4.index t = ![0, t.val] :=
  (by decide +kernel : ∀ t : Fin grid0.N, win0_4.index t = ![0, t.val])

/-- The output array is made of the points' blocks. -/
theorem y_final (c : Dev nD) : (dats m 0 c).arrAt 4 cfg0.N = yAll m c := by
  refine (dats m 0 c).arrAt_eq_of_covers 4 _ (by decide +kernel) fun t hf y => ?_
  blk_simp
  rw [after0_4]
  have ht : t.val < 32 := lt_of_lt_of_eq t.isLt (show cfg0.N = 32 from N_0)
  have e0 : (((win0_4.blk t).view.emb y 0 : Fin _) : ℕ) = (y 0).val := by blk_simp [index_4]
  have e1 : (((win0_4.blk t).view.emb y 1 : Fin _) : ℕ) = t.val * 1024 + (y 1).val := by blk_simp [index_4]
  have h1 : (y 1).val < 1024 := (y 1).isLt
  unfold yAll
  congr 1
  · congr 1; apply Fin.ext; show t.val = _ / 1024; rw [e1]; omega
  · funext a; fin_cases a
    · apply Fin.ext; exact e0.symm
    · apply Fin.ext; show _ = _ % 1024; rw [e1]; show (y 1).val = _; omega

end Cert.KernelIdeal.Hand

end
-- ==== Proof.Same.lean ====
/-
  The kernel as printed and its ideal reading are one program text, so the run proved of the one is a run of the other.
-/
module

public import proofs.«01_k».proof.Proof.RunFrame
public import proofs.«01_k».proof.Proof.Gen.Kernel
public import Idealize.ShloMosaic.Lib.Pipeline.Regions

@[expose] public section

set_option maxRecDepth 16384

noncomputable section

namespace Cert.Kernel.Hand

open Idealize.ShloMosaic Idealize.ShloMosaic.TcCoe Idealize.SL.Sem

variable {F : FTy → Type} [FloatOps F]

/-- What the frame claim says of the kernel as printed. -/
def Frame (m : (ℓ : Loc Cert.Kernel.nD Cert.Kernel.τ Cert.Kernel.sig) → Buf (Elt F) ℓ) (ρ : Dev Cert.Kernel.nD → PrngReg) : Prop :=
  θ_run (Cert.Kernel.defs (F := F)) (onTc (τ := Cert.Kernel.τ) (Cert.Kernel.main (F := F))) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

/-- What it says of the ideal reading's text, at any float instance. -/
def FrameIdeal (m : (ℓ : Loc Cert.KernelIdeal.nD Cert.KernelIdeal.τ Cert.KernelIdeal.sig) → Buf (Elt F) ℓ) (ρ : Dev Cert.KernelIdeal.nD → PrngReg) : Prop :=
  θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

theorem frame_same (m : (ℓ : Loc Cert.Kernel.nD Cert.Kernel.τ Cert.Kernel.sig) → Buf (Elt F) ℓ) (ρ : Dev Cert.Kernel.nD → PrngReg) :
    Frame m ρ = FrameIdeal m ρ := by chain_rfl

/-- The frame claim of the kernel as printed. -/
theorem frame (m : (ℓ : Loc Cert.Kernel.nD Cert.Kernel.τ Cert.Kernel.sig) → Buf (Elt F) ℓ) (ρ : Dev Cert.Kernel.nD → PrngReg) : Frame m ρ :=
  (frame_same m ρ).mpr (Cert.KernelIdeal.Hand.frame (F := F) m ρ)

end Cert.Kernel.Hand

end
-- ==== Proof.BlockRead.lean ====
/-
  What each grid point is given, in terms of the arguments: the input, the planes, the weight scales and zeros.
-/
module

public import proofs.«01_k».proof.Proof.RunFrame
public import Idealize.ShloMosaic.Lib.Pipeline.ValueKit.Point

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable (m : (ℓ : Loc nD τ sig) → Buf (Elt Ideal) ℓ) (c : Dev nD)

/-- The column of the whole product that is column `n` of the block of point `t`. -/
def column (t : Fin cfg0.N) (n : Fin 1024) : Fin 32768 :=
  ⟨t.val * 1024 + n.val, by have h : t.val < 32 := lt_of_lt_of_eq t.isLt (show cfg0.N = 32 from N_0); omega⟩

theorem index_0 : ∀ t : Fin cfg0.N, win0_0.index t = ![0, 0] :=
  (by decide +kernel : ∀ t : Fin grid0.N, win0_0.index t = ![0, 0])
theorem index_1 : ∀ t : Fin cfg0.N, win0_1.index t = ![0, t.val, 0] :=
  (by decide +kernel : ∀ t : Fin grid0.N, win0_1.index t = ![0, t.val, 0])
theorem index_2 : ∀ t : Fin cfg0.N, win0_2.index t = ![0, t.val] :=
  (by decide +kernel : ∀ t : Fin grid0.N, win0_2.index t = ![0, t.val])
theorem index_3 : ∀ t : Fin cfg0.N, win0_3.index t = ![0, t.val] :=
  (by decide +kernel : ∀ t : Fin grid0.N, win0_3.index t = ![0, t.val])

/-- The three arrays the host prepares before the kernel starts. -/
theorem V_v0 : V m c main_v0 = shapeCast S5x6144 (m ((c : Thread nD τ).loc main_arg0)) shapeCasts_S5x1x6144_S5x6144 := by
  entry_read; rfl
theorem V_v1 : V m c main_v1 = transpose S48x32768 [1, 0] (m ((c : Thread nD τ).loc main_arg2)) transposes_S32768x48_S48x32768_1_0 := by
  entry_read; rfl
theorem V_v2 : V m c main_v2 = transpose S48x32768 [1, 0] (m ((c : Thread nD τ).loc main_arg3)) transposes_S32768x48_S48x32768_1_0 := by
  entry_read; rfl

theorem planes_read (t : Fin cfg0.N) (b : Fin 2) (n : Fin 1024) (k : Fin 768) :
    iblk m c 1 t (ix3 b n k) = m ((c : Thread nD τ).loc main_arg1) (ix3 b (column t n) k) := by
  have e : (win0_1.blk t).view.emb (ix3 b n k) = ix3 b (column t n) k := by
    funext a; fin_cases a <;> apply Fin.ext <;> blk_simp [index_1] <;> simp [column, ix3]
  rw [← V_main_arg1 m c]
  exact congrArg (V m c main_arg1) e

theorem scale_read (t : Fin cfg0.N) (g : Fin 48) (n : Fin 1024) :
    iblk m c 2 t (ix2 g n) = m ((c : Thread nD τ).loc main_arg2) (ix2 (column t n) g) := by
  have e : (win0_2.blk t).view.emb (ix2 g n) = ix2 g (column t n) := by
    funext a; fin_cases a <;> apply Fin.ext <;> blk_simp [index_2] <;> simp [column, ix2]
  refine (congrArg (V m c main_v1) e).trans ?_
  rw [V_v1]
  pointwise

theorem zero_read (t : Fin cfg0.N) (g : Fin 48) (n : Fin 1024) :
    iblk m c 3 t (ix2 g n) = m ((c : Thread nD τ).loc main_arg3) (ix2 (column t n) g) := by
  have e : (win0_3.blk t).view.emb (ix2 g n) = ix2 g (column t n) := by
    funext a; fin_cases a <;> apply Fin.ext <;> blk_simp [index_3] <;> simp [column, ix2]
  refine (congrArg (V m c main_v2) e).trans ?_
  rw [V_v2]
  pointwise

theorem flat_apply (v : FVec Ideal S5x1x6144 .bf16) (t : Fin 5) (k : Fin 6144) :
    (shapeCast S5x6144 v shapeCasts_S5x1x6144_S5x6144 : FVec Ideal S5x6144 .bf16) (ix2 t k) = v (ix3 t (0 : Fin 1) k) := by
  pointwise

theorem input_read (t : Fin 5) (k : Fin 6144) :
    xIn m c (ix2 t k) = m ((c : Thread nD τ).loc main_arg0) (ix3 t (0 : Fin 1) k) := by
  let t0 : Fin cfg0.N := ⟨0, by decide⟩
  have e : (win0_0.blk t0).view.emb (ix2 t k) = ix2 t k := by
    funext a; fin_cases a <;> apply Fin.ext <;> blk_simp [index_0] <;> simp [ix2]
  refine (congrArg (V m c main_v0) e).trans ?_
  rw [V_v0]
  exact flat_apply _ t k

end Cert.KernelIdeal.Hand

end
-- ==== Proof.Math.lean ====
/-
  The mathematics both programs compute from `x`, over the extended reals: the signed table of every four activations,
  a group's scale, and the integer codes.
-/
module

public import Idealize.ShloMosaic.Lib.Pointwise
public import Idealize.ShloMosaic.Lib.IdealHost

@[expose] public section

set_option maxRecDepth 16384

noncomputable section

namespace Cert.Mirror

open Idealize.ShloMosaic

/-- The activations of five tokens. -/
abbrev Acts := Fin 5 → Fin 6144 → EReal

/-- One activation, with its sign, onto a table entry. -/
def signed (b : Bool) (t a : EReal) : EReal := bif b then t + a else t - a

/-- Activation `i` of the four number `l`. -/
def act (X : Acts) (t : Fin 5) (l : Fin 1536) (i : Fin 4) : EReal := X t ⟨4 * l.val + i.val, by omega⟩

/-- Table entry `e` of the four activations number `l`. -/
def entry (X : Acts) (t : Fin 5) (l : Fin 1536) (e : Fin 8) : EReal :=
  signed (e.val.testBit 3) (signed (e.val.testBit 2) (signed (e.val.testBit 1) (signed (e.val.testBit 0) 0
    (act X t l 0)) (act X t l 1)) (act X t l 2)) (act X t l 3)

/-- The magnitude of an extended real. -/
def mag (a : EReal) : EReal := max a (-a)

/-- The greatest magnitude of the eight entries. -/
def greatest (X : Acts) (t : Fin 5) (l : Fin 1536) : EReal := Finset.univ.sup fun e : Fin 8 => mag (entry X t l e)

/-- The four number `r` of group `g`. -/
def quad (g : Fin 48) (r : Fin 32) : Fin 1536 := ⟨32 * g.val + r.val, by omega⟩

/-- The greatest magnitude of a group. -/
def groupMax (X : Acts) (t : Fin 5) (g : Fin 48) : EReal := Finset.univ.sup fun r : Fin 32 => greatest X t (quad g r)

/-- The scale of a group. -/
def scale (X : Acts) (t : Fin 5) (g : Fin 48) : EReal :=
  if groupMax X t g = 0 then 1 else Ideal.div (groupMax X t g) ((127 : ℝ) : EReal)

/-- The group of a four. -/
def groupOf (l : Fin 1536) : Fin 48 := ⟨l.val / 32, by omega⟩

/-- The code of a table entry, still as a number. -/
def code (X : Acts) (t : Fin 5) (l : Fin 1536) (e : Fin 8) : EReal :=
  min ((127 : ℝ) : EReal) (max ((-127 : ℝ) : EReal) (Ideal.liftRound Ideal.roundHalfEven (Ideal.div (entry X t l e) (scale X t (groupOf l)))))

/-- The code as an integer. -/
def codeInt (X : Acts) (t : Fin 5) (l : Fin 1536) (e : Fin 8) : ℤ := (Ideal.fptosi 32 (code X t l e)).toInt

theorem groupOf_quad (g : Fin 48) (r : Fin 32) : groupOf (quad g r) = g := by
  apply Fin.ext; simp only [groupOf, quad]; omega

theorem zero_le_mag (a : EReal) : 0 ≤ mag a := by
  unfold mag
  rcases le_total 0 a with h | h
  · exact le_max_of_le_left h
  · exact le_max_of_le_right (by simpa using EReal.neg_le_neg_iff.2 h)

theorem zero_le_groupMax (X : Acts) (t : Fin 5) (g : Fin 48) : 0 ≤ groupMax X t g :=
  (zero_le_mag (entry X t (quad g 0) 0)).trans <|
    (Finset.le_sup (f := fun e : Fin 8 => mag (entry X t (quad g 0) e)) (Finset.mem_univ 0)).trans <|
      Finset.le_sup (f := fun r : Fin 32 => greatest X t (quad g r)) (Finset.mem_univ 0)

/-- A scale is positive. -/
theorem scale_pos (X : Acts) (t : Fin 5) (g : Fin 48) : 0 < scale X t g := by
  unfold scale
  split_ifs with h
  · exact zero_lt_one
  · have hp : 0 < groupMax X t g := lt_of_le_of_ne (zero_le_groupMax X t g) (Ne.symm h)
    have h7 : ((127 : ℝ) : EReal) ≠ 0 := by norm_num
    rw [Ideal.div, if_neg h7, ← EReal.coe_inv]
    exact EReal.mul_pos hp (by norm_num)

/-- A number between two integers, either whole or infinite, is an integer once clamped to them. -/
theorem clamp_liftRound (f : ℝ → ℤ) (a : EReal) :
    ∃ n : ℤ, |n| ≤ 127 ∧ min ((127 : ℝ) : EReal) (max ((-127 : ℝ) : EReal) (Ideal.liftRound f a)) = ((n : ℝ) : EReal) := by
  induction a with
  | bot => exact ⟨-127, by norm_num, by rw [show Ideal.liftRound f ⊥ = ⊥ from rfl]; rw [max_eq_left bot_le, min_eq_right (by norm_cast)]; norm_num⟩
  | top => exact ⟨127, by norm_num, by rw [show Ideal.liftRound f ⊤ = ⊤ from rfl]; rw [max_eq_right le_top, min_eq_left le_top]; norm_num⟩
  | coe r =>
    refine ⟨min 127 (max (-127) (f r)), ?_, ?_⟩
    · rw [abs_le]; omega
    · rw [show Ideal.liftRound f (r : EReal) = ((f r : ℝ) : EReal) from rfl]
      push_cast
      rfl

/-- An integer of 32 bits goes through the conversion unchanged. -/
theorem fptosi_int (n : ℤ) (h : |n| ≤ 127) : (Ideal.fptosi 32 ((n : ℝ) : EReal)).toInt = n := by
  have hn := abs_le.1 h
  have h1 : Ideal.toIntClamped (-(2 ^ (32 - 1) : ℕ)) ((2 ^ (32 - 1) : ℕ) - 1) ((n : ℝ) : EReal) = n := by
    show max _ (min _ (if (0 : ℝ) ≤ (n : ℝ) then ⌊(n : ℝ)⌋ else ⌈(n : ℝ)⌉)) = n
    rw [Int.floor_intCast, Int.ceil_intCast, ite_self]
    norm_num
    omega
  rw [Ideal.fptosi, h1, BitVec.toInt_ofInt]
  exact Int.bmod_eq_of_le (by norm_num; omega) (by norm_num; omega)

theorem code_eq (X : Acts) (t : Fin 5) (l : Fin 1536) (e : Fin 8) :
    |codeInt X t l e| ≤ 127 ∧ code X t l e = ((codeInt X t l e : ℝ) : EReal) := by
  obtain ⟨n, hn, h⟩ := clamp_liftRound Ideal.roundHalfEven (Ideal.div (entry X t l e) (scale X t (groupOf l)))
  have hc : code X t l e = ((n : ℝ) : EReal) := h
  have hi : codeInt X t l e = n := by rw [codeInt, hc, fptosi_int n hn]
  rw [hi]; exact ⟨hn, hc⟩

/-- Under an infinite scale every code is zero. -/
theorem code_of_top (X : Acts) (t : Fin 5) (l : Fin 1536) (e : Fin 8) (h : scale X t (groupOf l) = ⊤) : codeInt X t l e = 0 := by
  have hc : code X t l e = ((0 : ℝ) : EReal) := by
    unfold code
    rw [h, Ideal.div, if_neg (by simp), EReal.inv_top, mul_zero]
    rw [show Ideal.liftRound Ideal.roundHalfEven 0 = ((Ideal.roundHalfEven 0 : ℤ) : ℝ) from rfl]
    rw [show Ideal.roundHalfEven 0 = 0 by simp [Ideal.roundHalfEven]]
    norm_num
  have := (code_eq X t l e).2
  rw [hc] at this
  exact_mod_cast (EReal.coe_eq_coe_iff.1 this).symm

end Cert.Mirror

end
-- ==== Proof.Walsh.lean ====
/-
  The identity between the two ways of taking a table entry: the lookup by a nibble with its sign, and the sum of the
  Walsh coefficients of the codes over the eight odd parities of the nibble's bits.
-/
module

public import proofs.«01_k».proof.Proof.Math

@[expose] public section

set_option maxRecDepth 16384

namespace Cert.Mirror

/-- The table entry a nibble names: the lower half of the entries as they are, the upper half mirrored and negated. -/
def look (c : Fin 8 → ℤ) (n : Fin 16) : ℤ := if h : n.val < 8 then c ⟨n.val, h⟩ else -c ⟨15 - n.val, by omega⟩

/-- One step of the Walsh sum. -/
def had (b : Bool) (lo hi : ℤ) : ℤ := bif b then hi - lo else lo + hi

/-- The Walsh sum number `k` of eight integers. -/
def walsh (c : Fin 8 → ℤ) (k : Fin 8) : ℤ :=
  had (k.val.testBit 2)
    (had (k.val.testBit 1) (had (k.val.testBit 0) (c 0) (c 1)) (had (k.val.testBit 0) (c 2) (c 3)))
    (had (k.val.testBit 1) (had (k.val.testBit 0) (c 4) (c 5)) (had (k.val.testBit 0) (c 6) (c 7)))

/-- The coefficients of the four single bits. -/
def linC (c : Fin 8 → ℤ) : Fin 4 → ℤ := ![walsh c 1, walsh c 4, walsh c 2, -walsh c 0]
/-- The coefficients of the four triples of bits. -/
def cubC (c : Fin 8 → ℤ) : Fin 4 → ℤ := ![-walsh c 5, -walsh c 6, walsh c 7, -walsh c 3]
/-- The bits of each single. -/
def linM : Fin 4 → ℕ := ![1, 4, 2, 8]
/-- The bits of each triple. -/
def cubM : Fin 4 → ℕ := ![13, 14, 7, 11]

/-- The parity of the bits of `n` that `m` names. -/
def parity (m n : ℕ) : Bool :=
  (m.testBit 0 && n.testBit 0) ^^ (m.testBit 1 && n.testBit 1) ^^ (m.testBit 2 && n.testBit 2) ^^ (m.testBit 3 && n.testBit 3)

/-- A feature of the 2-bit weights: the parities of the two planes' nibbles as one number of two bits. -/
def feature (m : ℕ) (n0 n1 : Fin 16) : ℕ := (parity m n0.val).toNat + 2 * (parity m n1.val).toNat

theorem look_eq (c : Fin 8 → ℤ) (n : Fin 16) :
    8 * look c n = ∑ f, linC c f * (2 * (parity (linM f) n.val).toNat - 1) + ∑ f, cubC c f * (2 * (parity (cubM f) n.val).toNat - 1) := by
  fin_cases n <;>
    simp [look, linC, cubC, linM, cubM, walsh, had, Fin.sum_univ_four, parity, Nat.testBit] <;> ring

/-- Both planes' entries, less three times the entry of the nibble zero, are a quarter of the coefficients' sum over the features. -/
theorem look_pair (c : Fin 8 → ℤ) (n0 n1 : Fin 16) :
    4 * (look c n0 + 2 * look c n1 - 3 * c 0)
      = ∑ f, linC c f * (feature (linM f) n0 n1 : ℤ) + ∑ f, cubC c f * (feature (cubM f) n0 n1 : ℤ) := by
  have e0 := look_eq c n0
  have e1 := look_eq c n1
  have ez := look_eq c 0
  have z : ∀ m, parity m (0 : Fin 16).val = false := by intro m; simp [parity]
  have l0 : look c 0 = c 0 := rfl
  simp only [Fin.sum_univ_four, feature, z, l0] at e0 e1 ez ⊢
  push_cast
  simp only [Bool.toNat_false, Nat.cast_zero] at ez
  refine mul_left_cancel₀ (two_ne_zero (α := ℤ)) ?_
  linear_combination e0 + 2 * e1 - 3 * ez

/-- The packed bits: plane, output channel, byte. -/
abbrev Planes := Fin 2 → Fin 32768 → Fin 768 → BitVec 8
/-- One number per output channel and group. -/
abbrev Weights := Fin 32768 → Fin 48 → EReal

/-- The lower nibble of a byte. -/
def lowNib (b : BitVec 8) : Fin 16 := ⟨b.toNat % 16, Nat.mod_lt _ (by decide)⟩
/-- The upper nibble of a byte. -/
def highNib (b : BitVec 8) : Fin 16 := ⟨b.toNat / 16, by have := b.isLt; omega⟩
/-- Byte number `r` of group `g`. -/
def byteOf (g : Fin 48) (r : Fin 16) : Fin 768 := ⟨16 * g.val + r.val, by omega⟩
/-- The four activations under nibble `h` of a byte. -/
def fourOf (b : Fin 768) (h : Fin 2) : Fin 1536 := ⟨2 * b.val + h.val, by omega⟩

/-- The entries the two nibbles of a byte name, added. -/
noncomputable def byteSum (X : Acts) (P : Planes) (t : Fin 5) (n : Fin 32768) (p : Fin 2) (b : Fin 768) : ℤ :=
  look (codeInt X t (fourOf b 0)) (lowNib (P p n b)) + look (codeInt X t (fourOf b 1)) (highNib (P p n b))

/-- A group's integer sum. -/
noncomputable def accInt (X : Acts) (P : Planes) (t : Fin 5) (n : Fin 32768) (g : Fin 48) : ℤ :=
  ∑ p : Fin 2, (∑ r : Fin 16, byteSum X P t n p (byteOf g r)) * 2 ^ p.val

/-- Minus the sum of a group's codes of entry 0. -/
noncomputable def zeroInt (X : Acts) (t : Fin 5) (g : Fin 48) : ℤ := -∑ r : Fin 32, codeInt X t (quad g r) 0

/-- The product's element. -/
noncomputable def result (X : Acts) (P : Planes) (ws wz : Weights) (t : Fin 5) (n : Fin 32768) : EReal :=
  ∑ g : Fin 48, (ws n g * (((1 / 2 : ℝ) : EReal) * scale X t g))
    * (((accInt X P t n g : ℝ) : EReal) + (((3 : ℝ) : EReal) - ((2 : ℝ) : EReal) * wz n g) * ((zeroInt X t g : ℝ) : EReal))

theorem look_le (c : Fin 8 → ℤ) (hc : ∀ e, |c e| ≤ 127) (n : Fin 16) : |look c n| ≤ 127 := by
  unfold look
  split_ifs
  · exact hc _
  · rw [abs_neg]; exact hc _

theorem accInt_le (X : Acts) (P : Planes) (t : Fin 5) (n : Fin 32768) (g : Fin 48) : |accInt X P t n g| ≤ 20000 := by
  have hb : ∀ p r, |byteSum X P t n p (byteOf g r)| ≤ 254 := fun p r =>
    (abs_add_le _ _).trans (add_le_add (look_le _ (fun e => (code_eq X t _ e).1) _) (look_le _ (fun e => (code_eq X t _ e).1) _))
  have hs : ∀ p, |∑ r : Fin 16, byteSum X P t n p (byteOf g r)| ≤ 16 * 254 := fun p =>
    (Finset.abs_sum_le_sum_abs _ _).trans ((Finset.sum_le_sum fun r _ => hb p r).trans (by simp))
  have h0 := hs 0
  have h1 := hs 1
  unfold accInt
  rw [Fin.sum_univ_two]
  generalize (∑ r : Fin 16, byteSum X P t n 0 (byteOf g r)) = a at h0 ⊢
  generalize (∑ r : Fin 16, byteSum X P t n 1 (byteOf g r)) = b at h1 ⊢
  rw [abs_le] at h0 h1 ⊢
  norm_num
  omega

theorem zeroInt_le (X : Acts) (t : Fin 5) (g : Fin 48) : |zeroInt X t g| ≤ 20000 := by
  unfold zeroInt
  rw [abs_neg]
  exact (Finset.abs_sum_le_sum_abs _ _).trans ((Finset.sum_le_sum fun r _ => (code_eq X t (quad g r) 0).1).trans (by simp))

end Cert.Mirror

end
-- ==== Proof.Bytes.lean ====
/-
  The bit tricks on words of four bytes, at a byte: each masked word holds, in every byte, a feature of the two
  planes' nibbles, once or shifted by two bits.
-/
module

public import proofs.«01_k».proof.Proof.Walsh

@[expose] public section

set_option maxRecDepth 16384

namespace Cert.Mirror

open Idealize.ShloMosaic

/-- The parities of neighbouring bits of the two planes, at the even positions. -/
def sx (p0 p1 : BitVec 32) : BitVec 32 := ((p0 >>> 1) ^^^ p1) &&& 1431655765#32
def sodd (p0 p1 : BitVec 32) : BitVec 32 := p1 ^^^ sx p0 p1
def seven (p0 p1 : BitVec 32) : BitVec 32 := p0 ^^^ (sx p0 p1 <<< 1)
def sup (v : BitVec 32) : BitVec 32 := v >>> 4
def slo (v : BitVec 32) : BitVec 32 := v &&& 50529027#32
def shi (v : BitVec 32) : BitVec 32 := v &&& 202116108#32
def sz23 (ev od : BitVec 32) : BitVec 32 := (shi ev ^^^ shi od) >>> 2
def sz01 (ev od : BitVec 32) : BitVec 32 := (slo ev ^^^ slo od) <<< 2

/-- The word of a linear feature. -/
def slin (f : Fin 4) (ev od : BitVec 32) : BitVec 32 := ![slo ev, shi ev, slo od, shi od] f
/-- The word of a cubic feature. -/
def scub (f : Fin 4) (ev od : BitVec 32) : BitVec 32 :=
  ![slo ev ^^^ sz23 ev od, slo od ^^^ sz23 ev od, shi ev ^^^ sz01 ev od, shi od ^^^ sz01 ev od] f

/-- The bit a linear feature starts at. -/
def linO : Fin 4 → ℕ := ![0, 2, 0, 2]
/-- The bit a cubic feature starts at. -/
def cubO : Fin 4 → ℕ := ![0, 0, 2, 2]

theorem mask_pairs : ∀ j : Fin 32, (1431655765#32).getLsbD j.val = decide (j.val % 2 = 0) := by decide
theorem mask_lo : ∀ s : Fin 4, ∀ k : Fin 8, (50529027#32).getLsbD (8 * s.val + k.val) = decide (k.val < 2) := by decide
theorem mask_hi : ∀ s : Fin 4, ∀ k : Fin 8, (202116108#32).getLsbD (8 * s.val + k.val) = decide (2 ≤ k.val ∧ k.val < 4) := by decide

theorem sx_bit (p0 p1 : BitVec 32) (j : Fin 32) :
    (sx p0 p1).getLsbD j.val = ((p0.getLsbD (1 + j.val) ^^ p1.getLsbD j.val) && decide (j.val % 2 = 0)) := by
  rw [sx, BitVec.getLsbD_and, mask_pairs, BitVec.getLsbD_xor, BitVec.getLsbD_ushiftRight]

theorem sodd_bit (p0 p1 : BitVec 32) (j : Fin 32) :
    (sodd p0 p1).getLsbD j.val = if j.val % 2 = 0 then p0.getLsbD (1 + j.val) else p1.getLsbD j.val := by
  rw [sodd, BitVec.getLsbD_xor, sx_bit]
  by_cases h : j.val % 2 = 0
  · rw [if_pos h, decide_eq_true h]
    cases p0.getLsbD (1 + j.val) <;> cases p1.getLsbD j.val <;> rfl
  · rw [if_neg h, decide_eq_false h]
    cases p1.getLsbD j.val <;> simp

theorem seven_bit (p0 p1 : BitVec 32) (j : Fin 32) :
    (seven p0 p1).getLsbD j.val = if j.val % 2 = 0 then p0.getLsbD j.val else p1.getLsbD (j.val - 1) := by
  rw [seven, BitVec.getLsbD_xor, BitVec.getLsbD_shiftLeft]
  by_cases h : j.val % 2 = 0
  · rw [if_pos h]
    by_cases h0 : j.val < 1
    · simp [h0]
    · have hb := sx_bit p0 p1 ⟨j.val - 1, by omega⟩
      simp only at hb
      rw [hb, decide_eq_false (show ¬ (j.val - 1) % 2 = 0 by omega)]
      simp
  · have hb := sx_bit p0 p1 ⟨j.val - 1, by omega⟩
    simp only at hb
    rw [if_neg h, hb, decide_eq_true (show (j.val - 1) % 2 = 0 by omega), show 1 + (j.val - 1) = j.val by omega,
      decide_eq_true j.isLt, decide_eq_false (show ¬ j.val < 1 by omega)]
    cases p0.getLsbD j.val <;> cases p1.getLsbD (j.val - 1) <;> rfl

/-- A byte with two bits set aside and the rest clear. -/
def twoBits (o : ℕ) (x y : Bool) (k : ℕ) : Bool := (decide (k = o) && x) || (decide (k = o + 1) && y)

theorem byte_of_bits (b : BitVec 8) (o : ℕ) (x y : Bool) (ho : o = 0 ∨ o = 2) (h : ∀ k : Fin 8, b.getLsbD k.val = twoBits o x y k.val) :
    b = BitVec.ofNat 8 (2 ^ o * (x.toNat + 2 * y.toNat)) := by
  refine BitVec.eq_of_getLsbD_eq fun k hk => ?_
  rw [h ⟨k, hk⟩]
  have hc : ∀ k : Fin 8, ∀ x y : Bool, twoBits 0 x y k.val = (BitVec.ofNat 8 (2 ^ 0 * (x.toNat + 2 * y.toNat))).getLsbD k.val
    ∧ twoBits 2 x y k.val = (BitVec.ofNat 8 (2 ^ 2 * (x.toNat + 2 * y.toNat))).getLsbD k.val := by decide
  rcases ho with rfl | rfl
  · exact (hc ⟨k, hk⟩ x y).1
  · exact (hc ⟨k, hk⟩ x y).2

theorem slo_bit (v : BitVec 32) (s : Fin 4) (k : Fin 8) : (slo v).getLsbD (8 * s.val + k.val) = (v.getLsbD (8 * s.val + k.val) && decide (k.val < 2)) := by
  rw [slo, BitVec.getLsbD_and, mask_lo]
theorem shi_bit (v : BitVec 32) (s : Fin 4) (k : Fin 8) : (shi v).getLsbD (8 * s.val + k.val) = (v.getLsbD (8 * s.val + k.val) && decide (2 ≤ k.val ∧ k.val < 4)) := by
  rw [shi, BitVec.getLsbD_and, mask_hi]

theorem sz23_bit (ev od : BitVec 32) (s : Fin 4) (k : Fin 8) :
    (sz23 ev od).getLsbD (8 * s.val + k.val)
      = ((ev.getLsbD (8 * s.val + k.val + 2) ^^ od.getLsbD (8 * s.val + k.val + 2)) && decide (k.val < 2)) := by
  rw [sz23, BitVec.getLsbD_ushiftRight, BitVec.getLsbD_xor]
  by_cases hk : k.val < 6
  · have h1 := shi_bit ev s ⟨k.val + 2, by omega⟩
    have h2 := shi_bit od s ⟨k.val + 2, by omega⟩
    simp only [← Nat.add_assoc] at h1 h2
    rw [Nat.add_comm 2, h1, h2]
    by_cases hk2 : k.val < 2
    · rw [decide_eq_true hk2, decide_eq_true (show 2 ≤ k.val + 2 ∧ k.val + 2 < 4 by omega)]; simp
    · rw [decide_eq_false hk2, decide_eq_false (show ¬ (2 ≤ k.val + 2 ∧ k.val + 2 < 4) by omega)]; simp
  · rw [decide_eq_false (show ¬ k.val < 2 by omega)]
    by_cases hs : s.val < 3
    · have h1 := shi_bit ev ⟨s.val + 1, by omega⟩ ⟨k.val - 6, by omega⟩
      have h2 := shi_bit od ⟨s.val + 1, by omega⟩ ⟨k.val - 6, by omega⟩
      simp only at h1 h2
      rw [show 2 + (8 * s.val + k.val) = 8 * (s.val + 1) + (k.val - 6) by omega, h1, h2, decide_eq_false (show ¬ (2 ≤ k.val - 6 ∧ k.val - 6 < 4) by omega)]
      simp
    · rw [BitVec.getLsbD_of_ge _ _ (by omega), BitVec.getLsbD_of_ge _ _ (by omega)]
      simp

theorem sz01_bit (ev od : BitVec 32) (s : Fin 4) (k : Fin 8) :
    (sz01 ev od).getLsbD (8 * s.val + k.val)
      = ((ev.getLsbD (8 * s.val + k.val - 2) ^^ od.getLsbD (8 * s.val + k.val - 2)) && decide (2 ≤ k.val ∧ k.val < 4)) := by
  rw [sz01, BitVec.getLsbD_shiftLeft, BitVec.getLsbD_xor, decide_eq_true (show 8 * s.val + k.val < 32 by omega)]
  by_cases hk : 2 ≤ k.val
  · have h1 := slo_bit ev s ⟨k.val - 2, by omega⟩
    have h2 := slo_bit od s ⟨k.val - 2, by omega⟩
    simp only at h1 h2
    rw [decide_eq_false (show ¬ 8 * s.val + k.val < 2 by omega), show 8 * s.val + k.val - 2 = 8 * s.val + (k.val - 2) by omega, h1, h2]
    by_cases hk4 : k.val < 4
    · rw [decide_eq_true (show k.val - 2 < 2 by omega), decide_eq_true (show 2 ≤ k.val ∧ k.val < 4 by omega)]; simp
    · rw [decide_eq_false (show ¬ k.val - 2 < 2 by omega), decide_eq_false (show ¬ (2 ≤ k.val ∧ k.val < 4) by omega)]; simp
  · rw [decide_eq_false (show ¬ (2 ≤ k.val ∧ k.val < 4) by omega)]
    by_cases hs : 0 < s.val
    · have h1 := slo_bit ev ⟨s.val - 1, by omega⟩ ⟨k.val + 6, by omega⟩
      have h2 := slo_bit od ⟨s.val - 1, by omega⟩ ⟨k.val + 6, by omega⟩
      simp only at h1 h2
      rw [show 8 * s.val + k.val - 2 = 8 * (s.val - 1) + (k.val + 6) by omega, h1, h2, decide_eq_false (show ¬ k.val + 6 < 2 by omega)]
      simp
    · rw [decide_eq_true (show 8 * s.val + k.val < 2 by omega)]
      simp

/-- The words of the even and odd fields hold, in a nibble, the bits of the planes' nibbles in pairs. -/
structure Fields (ev od : BitVec 32) (s : Fin 4) (q r : Fin 4 → Bool) : Prop where
  e0 : ev.getLsbD (8 * s.val) = q 0
  e1 : ev.getLsbD (8 * s.val + 1) = r 0
  e2 : ev.getLsbD (8 * s.val + 2) = q 2
  e3 : ev.getLsbD (8 * s.val + 3) = r 2
  o0 : od.getLsbD (8 * s.val) = q 1
  o1 : od.getLsbD (8 * s.val + 1) = r 1
  o2 : od.getLsbD (8 * s.val + 2) = q 3
  o3 : od.getLsbD (8 * s.val + 3) = r 3

/-- The parity of the bits of `q` that `m` names. -/
def parity4 (m : ℕ) (q : Fin 4 → Bool) : Bool := (m.testBit 0 && q 0) ^^ (m.testBit 1 && q 1) ^^ (m.testBit 2 && q 2) ^^ (m.testBit 3 && q 3)

theorem slin_bit {ev od : BitVec 32} {s : Fin 4} {q r : Fin 4 → Bool} (h : Fields ev od s q r) (f : Fin 4) (k : Fin 8) :
    (slin f ev od).getLsbD (8 * s.val + k.val) = twoBits (linO f) (parity4 (linM f) q) (parity4 (linM f) r) k.val := by
  obtain ⟨e0, e1, e2, e3, o0, o1, o2, o3⟩ := h
  match f with
  | ⟨0, _⟩ => rw [show slin ⟨0, _⟩ ev od = slo ev from rfl, slo_bit]; fin_cases k <;> simp [twoBits, linO, linM, parity4, e0, e1, e2, e3, o0, o1, o2, o3, Nat.testBit]
  | ⟨1, _⟩ => rw [show slin ⟨1, _⟩ ev od = shi ev from rfl, shi_bit]; fin_cases k <;> simp [twoBits, linO, linM, parity4, e0, e1, e2, e3, o0, o1, o2, o3, Nat.testBit]
  | ⟨2, _⟩ => rw [show slin ⟨2, _⟩ ev od = slo od from rfl, slo_bit]; fin_cases k <;> simp [twoBits, linO, linM, parity4, e0, e1, e2, e3, o0, o1, o2, o3, Nat.testBit]
  | ⟨3, _⟩ => rw [show slin ⟨3, _⟩ ev od = shi od from rfl, shi_bit]; fin_cases k <;> simp [twoBits, linO, linM, parity4, e0, e1, e2, e3, o0, o1, o2, o3, Nat.testBit]

theorem xor_rot : ∀ a b c : Bool, (c ^^ (a ^^ b)) = (a != (b != c)) := by decide

theorem scub_bit {ev od : BitVec 32} {s : Fin 4} {q r : Fin 4 → Bool} (h : Fields ev od s q r) (f : Fin 4) (k : Fin 8) :
    (scub f ev od).getLsbD (8 * s.val + k.val) = twoBits (cubO f) (parity4 (cubM f) q) (parity4 (cubM f) r) k.val := by
  obtain ⟨e0, e1, e2, e3, o0, o1, o2, o3⟩ := h
  match f with
  | ⟨0, _⟩ => rw [show scub ⟨0, _⟩ ev od = slo ev ^^^ sz23 ev od from rfl, BitVec.getLsbD_xor, slo_bit, sz23_bit]; fin_cases k <;> simp [twoBits, cubO, cubM, parity4, e0, e1, e2, e3, o0, o1, o2, o3, Nat.testBit]
  | ⟨1, _⟩ => rw [show scub ⟨1, _⟩ ev od = slo od ^^^ sz23 ev od from rfl, BitVec.getLsbD_xor, slo_bit, sz23_bit]; fin_cases k <;> simp [twoBits, cubO, cubM, parity4, e0, e1, e2, e3, o0, o1, o2, o3, Nat.testBit]
  | ⟨2, _⟩ => rw [show scub ⟨2, _⟩ ev od = shi ev ^^^ sz01 ev od from rfl, BitVec.getLsbD_xor, shi_bit, sz01_bit]; fin_cases k <;> simp [twoBits, cubO, cubM, parity4, e0, e1, e2, e3, o0, o1, o2, o3, Nat.testBit] <;> exact xor_rot _ _ _
  | ⟨3, _⟩ => rw [show scub ⟨3, _⟩ ev od = shi od ^^^ sz01 ev od from rfl, BitVec.getLsbD_xor, shi_bit, sz01_bit]; fin_cases k <;> simp [twoBits, cubO, cubM, parity4, e0, e1, e2, e3, o0, o1, o2, o3, Nat.testBit] <;> exact xor_rot _ _ _

/-- The bits of a nibble of a byte. -/
def nibBits (h : Fin 2) (b : BitVec 8) : Fin 4 → Bool := fun i => b.getLsbD (4 * h.val + i.val)
/-- A nibble of a byte. -/
def nib (h : Fin 2) (b : BitVec 8) : Fin 16 := ![lowNib b, highNib b] h
/-- The words of a nibble's fields. -/
def shifted (h : Fin 2) (v : BitVec 32) : BitVec 32 := ![v, sup v] h

theorem shifted_bit (h : Fin 2) (v : BitVec 32) (j : ℕ) : (shifted h v).getLsbD j = v.getLsbD (j + 4 * h.val) := by
  match h with
  | ⟨0, _⟩ => rfl
  | ⟨1, _⟩ =>
    show (v >>> 4).getLsbD j = _
    rw [BitVec.getLsbD_ushiftRight, Nat.add_comm]
    rfl

theorem nib_parity (m : Fin 16) (h : Fin 2) (b : BitVec 8) : parity4 m.val (nibBits h b) = parity m.val (nib h b).val := by
  have hc : ∀ m : Fin 16, ∀ h : Fin 2, ∀ b : Fin 256, parity4 m.val (nibBits h (BitVec.ofFin b)) = parity m.val (nib h (BitVec.ofFin b)).val := by
    decide +kernel
  exact hc m h b.toFin

/-- The fields of a nibble, from the planes' words. -/
theorem fields_of (p0 p1 : BitVec 32) (b0 b1 : BitVec 8) (s : Fin 4) (h : Fin 2)
    (h0 : ∀ k : Fin 8, p0.getLsbD (8 * s.val + k.val) = b0.getLsbD k.val)
    (h1 : ∀ k : Fin 8, p1.getLsbD (8 * s.val + k.val) = b1.getLsbD k.val) :
    Fields (shifted h (seven p0 p1)) (shifted h (sodd p0 p1)) s (nibBits h b0) (nibBits h b1) := by
  have ev : ∀ i : ℕ, (hi : i < 4) → (shifted h (seven p0 p1)).getLsbD (8 * s.val + i)
      = if i % 2 = 0 then b0.getLsbD (4 * h.val + i) else b1.getLsbD (4 * h.val + (i - 1)) := fun i hi => by
    have hb := seven_bit p0 p1 ⟨8 * s.val + i + 4 * h.val, by omega⟩
    have g0 := h0 ⟨4 * h.val + i, by omega⟩
    have g1 := h1 ⟨4 * h.val + (i - 1), by omega⟩
    simp only at hb g0 g1
    rw [shifted_bit, hb]
    by_cases he : i % 2 = 0
    · rw [if_pos (by omega), if_pos he, ← g0]; congr 1; omega
    · rw [if_neg (by omega), if_neg he, ← g1]; congr 1; omega
  have od : ∀ i : ℕ, (hi : i < 4) → (shifted h (sodd p0 p1)).getLsbD (8 * s.val + i)
      = if i % 2 = 0 then b0.getLsbD (4 * h.val + (i + 1)) else b1.getLsbD (4 * h.val + i) := fun i hi => by
    have hb := sodd_bit p0 p1 ⟨8 * s.val + i + 4 * h.val, by omega⟩
    have g1 := h1 ⟨4 * h.val + i, by omega⟩
    simp only at hb g1
    rw [shifted_bit, hb]
    by_cases he : i % 2 = 0
    · have g0 := h0 ⟨4 * h.val + (i + 1), by omega⟩
      simp only at g0
      rw [if_pos (by omega), if_pos he, ← g0]; congr 1; omega
    · rw [if_neg (by omega), if_neg he, ← g1]; congr 1; omega
  exact ⟨ev 0 (by omega), ev 1 (by omega), ev 2 (by omega), ev 3 (by omega), od 0 (by omega), od 1 (by omega), od 2 (by omega), od 3 (by omega)⟩

theorem linM_lt : ∀ f, linM f < 16 := by decide
theorem cubM_lt : ∀ f, cubM f < 16 := by decide
theorem linO_eq : ∀ f, linO f = 0 ∨ linO f = 2 := by decide
theorem cubO_eq : ∀ f, cubO f = 0 ∨ cubO f = 2 := by decide

/-- A linear feature's byte. -/
theorem lin_byte (p0 p1 : BitVec 32) (b0 b1 b : BitVec 8) (s : Fin 4) (h : Fin 2) (f : Fin 4)
    (h0 : ∀ k : Fin 8, p0.getLsbD (8 * s.val + k.val) = b0.getLsbD k.val)
    (h1 : ∀ k : Fin 8, p1.getLsbD (8 * s.val + k.val) = b1.getLsbD k.val)
    (hb : ∀ k : Fin 8, b.getLsbD k.val = (slin f (shifted h (seven p0 p1)) (shifted h (sodd p0 p1))).getLsbD (8 * s.val + k.val)) :
    b = BitVec.ofNat 8 (2 ^ linO f * feature (linM f) (nib h b0) (nib h b1)) := by
  rw [feature, ← nib_parity ⟨linM f, linM_lt f⟩, ← nib_parity ⟨linM f, linM_lt f⟩]
  refine byte_of_bits b _ _ _ (linO_eq f) fun k => ?_
  rw [hb, slin_bit (fields_of p0 p1 b0 b1 s h h0 h1)]

/-- A cubic feature's byte. -/
theorem cub_byte (p0 p1 : BitVec 32) (b0 b1 b : BitVec 8) (s : Fin 4) (h : Fin 2) (f : Fin 4)
    (h0 : ∀ k : Fin 8, p0.getLsbD (8 * s.val + k.val) = b0.getLsbD k.val)
    (h1 : ∀ k : Fin 8, p1.getLsbD (8 * s.val + k.val) = b1.getLsbD k.val)
    (hb : ∀ k : Fin 8, b.getLsbD k.val = (scub f (shifted h (seven p0 p1)) (shifted h (sodd p0 p1))).getLsbD (8 * s.val + k.val)) :
    b = BitVec.ofNat 8 (2 ^ cubO f * feature (cubM f) (nib h b0) (nib h b1)) := by
  rw [feature, ← nib_parity ⟨cubM f, cubM_lt f⟩, ← nib_parity ⟨cubM f, cubM_lt f⟩]
  refine byte_of_bits b _ _ _ (cubO_eq f) fun k => ?_
  rw [hb, scub_bit (fields_of p0 p1 b0 b1 s h h0 h1)]

theorem feature_lt (m : ℕ) (n0 n1 : Fin 16) : feature m n0 n1 < 4 := by
  unfold feature
  cases parity m n0.val <;> cases parity m n1.val <;> decide

/-- A small byte as an 8-bit float. -/
theorem float_byte (k : Fin 16) : Ideal.e4m3fn (BitVec.ofNat 8 k.val) = (((k.val : ℝ) * (1 / 512) : ℝ) : EReal) := by
  fin_cases k <;> simp [Ideal.e4m3fn, -EReal.coe_mul] <;> norm_num

end Cert.Mirror
-- ==== Proof.Feat.lean ====
/-
  The features of a pair of groups at an index: the 8-bit float of the two planes' nibbles.
-/
module

public import Idealize.ShloMosaic.Lib.Pointwise.Index
public import Idealize.ShloMosaic.Lib.BitcastFour
public import proofs.«01_k».proof.Proof.Bytes
public import proofs.«01_k».proof.Proof.Steps

@[expose] public section

set_option maxRecDepth 16384

noncomputable section

namespace Cert.KernelIdeal.Hand

open Cert.KernelIdeal Cert.KernelIdeal.Gen
open Idealize.ShloMosaic Idealize.ShloMosaic.TcCoe
open Idealize.ShloMosaic.View (ld)

/-- Byte `r` of a pair. -/
def pairByte (p : Fin 24) (r : Fin 32) : Fin 768 := ⟨32 * p.val + r.val, by omega⟩

theorem planeWords_bit (v : Vec Ideal S1x1024x128 .i8) (a : Fin 32) (n : Fin 1024) (q : ℕ) (hq : q < 32) (b : Fin 128) (hb : b.val = 4 * a.val + q / 8) :
    (planeWords (F := Ideal) v (ix2 a n)).getLsbD q = (v (ix3 (0 : Fin 1) n b)).getLsbD (q % 8) := by
  refine (bitcast_8_32_getLsbD_ix2 _ bitcasts_S128x1024_w8_S32x1024_w32 a n q hq b hb).trans ?_
  refine congrArg (fun w : BitVec 8 => w.getLsbD (q % 8)) ?_
  pointwise

theorem pairWords_read (x1 : Vec Ideal S2x1024x768 .i8) (b : Fin 2) (p : Fin 24) (a : Fin 8) (n : Fin 1024) :
    pairWords (F := Ideal) x1 b p (ix2 a n) = planeWords (F := Ideal) (ld x1 (Rect.unit (s := S2x1024x768) ![b.val, 0, 128 * (p.val / 4)] S1x1024x128.size
      (inbPlane b ⟨p.val / 4, by omega⟩))) (ix2 (⟨8 * (p.val % 4) + a.val, by omega⟩ : Fin 32) n) := by
  unfold pairWords
  pointwise

theorem pairWords_bit (x1 : Vec Ideal S2x1024x768 .i8) (b : Fin 2) (p : Fin 24) (r : Fin 32) (n : Fin 1024) (k : Fin 8) :
    (pairWords (F := Ideal) x1 b p (ix2 (⟨r.val / 4, by omega⟩ : Fin 8) n)).getLsbD (8 * (r.val % 4) + k.val)
      = (x1 (ix3 b n (pairByte p r))).getLsbD k.val := by
  rw [pairWords_read, planeWords_bit _ _ _ _ (by omega) ⟨32 * (p.val % 4) + r.val, by omega⟩ (by show 32 * (p.val % 4) + r.val = 4 * (8 * (p.val % 4) + r.val / 4) + (8 * (r.val % 4) + k.val) / 8; omega)]
  rw [show (8 * (r.val % 4) + k.val) % 8 = k.val by omega]
  refine congrArg (fun w : BitVec 8 => w.getLsbD k.val) ?_
  refine congrArg x1 ?_
  funext c
  match c with
  | ⟨0, _⟩ => exact Fin.ext (by simp [ix3, Rect.unit])
  | ⟨1, _⟩ => exact Fin.ext (by simp [ix3, Rect.unit])
  | ⟨2, _⟩ => exact Fin.ext (by show 128 * (p.val / 4) + _ = 32 * p.val + r.val; simp [ix3, Rect.unit]; omega)

theorem asF8_apply (w : IVec S8x1024 32) (r : Fin 32) (n : Fin 1024) (b : BitVec 8)
    (hb : ∀ k : Fin 8, b.getLsbD k.val = (w (ix2 (⟨r.val / 4, by omega⟩ : Fin 8) n)).getLsbD (8 * (r.val % 4) + k.val)) :
    asF8 (F := Ideal) w (ix2 r n) = Ideal.e4m3fn b := by
  refine congrArg Ideal.e4m3fn ?_
  refine BitVec.eq_of_getLsbD_eq fun k hk => ?_
  rw [bitcast_getLsbD _ bitcasts_S8x1024_w32_S32x1024_w8 _ k hk (by decide), hb ⟨k, hk⟩]
  have hrow : S32x1024.row (ix2 r n) = r.val := rfl
  rw [show (S32x1024.row (ix2 r n) * 8 + k) % 32 = 8 * (r.val % 4) + k by rw [hrow]; omega]
  refine congrArg (fun i : S8x1024.Idx => (w i).getLsbD (8 * (r.val % 4) + k)) ?_
  funext c
  match c with
  | ⟨0, _⟩ => exact Fin.ext ((bitcasts_S8x1024_w32_S32x1024_w8.srcIdx_row _ _ _ ⟨0, Nat.zero_lt_two⟩ rfl).trans (by rw [hrow]; show (r.val * 8 + k) / 32 = r.val / 4; omega))
  | ⟨1, _⟩ => exact Fin.ext (bitcasts_S8x1024_w32_S32x1024_w8.srcIdx_other _ _ _ ⟨1, Nat.one_lt_two⟩ (by show ¬ 1 + 2 = 2; omega))

/-- Row `r` of piece `j` of eight. -/
def pieceRow (j : Fin 8) (r : Fin 32) : Fin 256 := ⟨32 * j.val + r.val, by omega⟩

theorem stack8_apply (f : Fin 8 → FVec Ideal S32x1024 .fp8e4m3) (j : Fin 8) (r : Fin 32) (n : Fin 1024) :
    stack8 (f 0) (f 1) (f 2) (f 3) (f 4) (f 5) (f 6) (f 7) (ix2 (pieceRow j r) n) = f j (ix2 r n) := by
  refine concatenate_ofFn_apply (t := S256x1024) (s₁ := S32x1024) 0 f
    concatenates_S32x1024_S32x1024_S32x1024_S32x1024_S32x1024_S32x1024_S32x1024_S32x1024_S256x1024_d0 rfl 32 rfl
    (ix2 (pieceRow j r) n) j ?_ (ix2 r n) ?_ ?_
  · show (32 * j.val + r.val) / 32 = j.val
    omega
  · show r.val = (32 * j.val + r.val) % 32
    omega
  · intro b hb
    match b with
    | ⟨0, _⟩ => exact absurd rfl hb
    | ⟨1, _⟩ => rfl

/-- Piece number of feature `f` of nibble `h`. -/
def pieceOf (h : Fin 2) (f : Fin 4) : Fin 8 := ⟨4 * h.val + f.val, by omega⟩

/-- The words of a linear feature. -/
def linWords (ev od : IVec S8x1024 32) (h : Fin 2) (f : Fin 4) : IVec S8x1024 32 :=
  fun i => Cert.Mirror.slin f (Cert.Mirror.shifted h (ev i)) (Cert.Mirror.shifted h (od i))
/-- The words of a cubic feature. -/
def cubWords (ev od : IVec S8x1024 32) (h : Fin 2) (f : Fin 4) : IVec S8x1024 32 :=
  fun i => Cert.Mirror.scub f (Cert.Mirror.shifted h (ev i)) (Cert.Mirror.shifted h (od i))

theorem linFeat_apply (ev od : IVec S8x1024 32) (h : Fin 2) (f : Fin 4) (r : Fin 32) (n : Fin 1024) :
    linFeat (F := Ideal) ev od (ix2 (pieceRow (pieceOf h f) r) n) = asF8 (F := Ideal) (linWords ev od h f) (ix2 r n) := by
  refine (stack8_apply ![asF8 (wlo ev), asF8 (whi ev), asF8 (wlo od), asF8 (whi od),
    asF8 (wlo (wup ev)), asF8 (whi (wup ev)), asF8 (wlo (wup od)), asF8 (whi (wup od))] (pieceOf h f) r n).trans ?_
  fin_cases h <;> fin_cases f <;> rfl

theorem cubFeat_apply (ev od : IVec S8x1024 32) (h : Fin 2) (f : Fin 4) (r : Fin 32) (n : Fin 1024) :
    cubFeat (F := Ideal) ev od (ix2 (pieceRow (pieceOf h f) r) n) = asF8 (F := Ideal) (cubWords ev od h f) (ix2 r n) := by
  refine (stack8_apply ![asF8 (xori (wlo ev) (wz23 ev od)), asF8 (xori (wlo od) (wz23 ev od)),
    asF8 (xori (whi ev) (wz01 ev od)), asF8 (xori (whi od) (wz01 ev od)),
    asF8 (xori (wlo (wup ev)) (wz23 (wup ev) (wup od))), asF8 (xori (wlo (wup od)) (wz23 (wup ev) (wup od))),
    asF8 (xori (whi (wup ev)) (wz01 (wup ev) (wup od))), asF8 (xori (whi (wup od)) (wz01 (wup ev) (wup od)))] (pieceOf h f) r n).trans ?_
  fin_cases h <;> fin_cases f <;> rfl

section
variable (x1 : Vec Ideal S2x1024x768 .i8) (p : Fin 24) (h : Fin 2) (f : Fin 4) (r : Fin 32) (n : Fin 1024)

/-- The nibble of plane `b` the lane reads. -/
def nibAt (b : Fin 2) : Fin 16 := Cert.Mirror.nib h (x1 (ix3 b n (pairByte p r)))

theorem words_even : pairEven (F := Ideal) x1 p (ix2 (⟨r.val / 4, by omega⟩ : Fin 8) n)
    = Cert.Mirror.seven (pairWords (F := Ideal) x1 0 p (ix2 (⟨r.val / 4, by omega⟩ : Fin 8) n)) (pairWords (F := Ideal) x1 1 p (ix2 (⟨r.val / 4, by omega⟩ : Fin 8) n)) := rfl
theorem words_odd : pairOdd (F := Ideal) x1 p (ix2 (⟨r.val / 4, by omega⟩ : Fin 8) n)
    = Cert.Mirror.sodd (pairWords (F := Ideal) x1 0 p (ix2 (⟨r.val / 4, by omega⟩ : Fin 8) n)) (pairWords (F := Ideal) x1 1 p (ix2 (⟨r.val / 4, by omega⟩ : Fin 8) n)) := rfl

theorem exists_byte (w : BitVec 32) (s : ℕ) : ∃ b : BitVec 8, ∀ k : Fin 8, b.getLsbD k.val = w.getLsbD (8 * s + k.val) :=
  ⟨w.extractLsb' (8 * s) 8, fun k => by rw [BitVec.getLsbD_extractLsb']; simp [k.isLt]⟩

theorem small_float (o F : ℕ) (ho : o = 0 ∨ o = 2) (hF : F < 4) :
    Ideal.e4m3fn (BitVec.ofNat 8 (2 ^ o * F)) = (((2 : ℝ) ^ o * F * (1 / 512) : ℝ) : EReal) := by
  have hlt : 2 ^ o * F < 16 := by rcases ho with rfl | rfl <;> omega
  rw [Cert.Mirror.float_byte ⟨2 ^ o * F, hlt⟩]
  push_cast
  rfl

theorem pairLinFeat_apply : linFeat (F := Ideal) (pairEven (F := Ideal) x1 p) (pairOdd (F := Ideal) x1 p) (ix2 (pieceRow (pieceOf h f) r) n)
    = (((2 : ℝ) ^ Cert.Mirror.linO f * (Cert.Mirror.feature (Cert.Mirror.linM f) (nibAt x1 p h r n 0) (nibAt x1 p h r n 1) : ℝ) * (1 / 512) : ℝ) : EReal) := by
  obtain ⟨b, hb⟩ := exists_byte (linWords (pairEven (F := Ideal) x1 p) (pairOdd (F := Ideal) x1 p) h f (ix2 (⟨r.val / 4, by omega⟩ : Fin 8) n)) (r.val % 4)
  rw [linFeat_apply, asF8_apply _ r n b hb]
  unfold linWords at hb
  rw [words_even, words_odd] at hb
  rw [Cert.Mirror.lin_byte _ _ _ _ b ⟨r.val % 4, by omega⟩ h f (pairWords_bit x1 0 p r n) (pairWords_bit x1 1 p r n) hb]
  exact small_float _ _ (Cert.Mirror.linO_eq f) (Cert.Mirror.feature_lt _ _ _)

theorem pairCubFeat_apply : cubFeat (F := Ideal) (pairEven (F := Ideal) x1 p) (pairOdd (F := Ideal) x1 p) (ix2 (pieceRow (pieceOf h f) r) n)
    = (((2 : ℝ) ^ Cert.Mirror.cubO f * (Cert.Mirror.feature (Cert.Mirror.cubM f) (nibAt x1 p h r n 0) (nibAt x1 p h r n 1) : ℝ) * (1 / 512) : ℝ) : EReal) := by
  obtain ⟨b, hb⟩ := exists_byte (cubWords (pairEven (F := Ideal) x1 p) (pairOdd (F := Ideal) x1 p) h f (ix2 (⟨r.val / 4, by omega⟩ : Fin 8) n)) (r.val % 4)
  rw [cubFeat_apply, asF8_apply _ r n b hb]
  unfold cubWords at hb
  rw [words_even, words_odd] at hb
  rw [Cert.Mirror.cub_byte _ _ _ _ b ⟨r.val % 4, by omega⟩ h f (pairWords_bit x1 0 p r n) (pairWords_bit x1 1 p r n) hb]
  exact small_float _ _ (Cert.Mirror.cubO_eq f) (Cert.Mirror.feature_lt _ _ _)

end

end Cert.KernelIdeal.Hand

end
-- ==== Proof.ActValue.lean ====
/-
  The kernel's activations at an index: the product with the selection matrix picks one element of `x`.
-/
module

public import proofs.«01_k».proof.Proof.Math
public import proofs.«01_k».proof.Proof.Table
public import Idealize.ShloMosaic.Lib.MatmulPlain
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe
open Idealize.ShloMosaic.View (ld)

/-- The activations of a `5 × 6144` array. -/
def actsOf (x0 : Vec Ideal S5x6144 .bf16) : Cert.Mirror.Acts := fun t k => x0 (ix2 t k)

/-- A token's row among the eight. -/
def row (t : Fin 5) : Fin 8 := ⟨t.val, by omega⟩

/-- The rows of `x`, zeros below. -/
def padded (v : Vec Ideal S5x6144 .bf16) : FVec Ideal S8x6144 .f32 :=
  concatenate S8x6144 0 [⟨S5x6144, extf .f32 (shapeCast S5x6144 v shapeCasts_S5x6144_S5x6144 : FVec Ideal S5x6144 .bf16) bitsLt_bf16_f32⟩,
    ⟨S3x6144, broadcast S3x6144 (Scalar.ofBits .f32 0x00000000#32)⟩] concatenates_S5x6144_S3x6144_S8x6144_d0

theorem padded_apply (v : Vec Ideal S5x6144 .bf16) (t : Fin 5) (k : Fin 6144) : padded v (ix2 (row t) k) = v (ix2 t k) := by
  have ht : (row t).val < 5 := t.isLt
  pointwise [padded]
  rw [dif_pos ht]
  rfl

theorem slicesCols (c : Fin 12) : S8x6144.Slices ![0, 512 * c.val] S8x512 := by revert c; decide

/-- The rows of the left factor: chunk `c` of token `t`. -/
theorem pay7_apply (v : Vec Ideal S5x6144 .bf16) (c : Fin 12) (t : Fin 5) (k : Fin 512) :
    k0_pay7 (F := Ideal) v (ix2 (⟨8 * c.val + t.val, by omega⟩ : Fin 96) k) = v (ix2 t (⟨512 * c.val + k.val, by omega⟩ : Fin 6144)) := by
  refine Eq.trans ?_ (padded_apply v t _)
  refine (concatenate_ofFn_apply (t := S96x512) (s₁ := S8x512) 0 (fun c : Fin 12 => extractStridedSlice S8x512 ![0, 512 * c.val] (padded v) (slicesCols c))
    concatenates_S8x512_S8x512_S8x512_S8x512_S8x512_S8x512_S8x512_S8x512_S8x512_S8x512_S8x512_S8x512_S96x512_d0 rfl 8 rfl
    (ix2 (⟨8 * c.val + t.val, by omega⟩ : Fin 96) k) c ?_ (ix2 (row t) k) ?_ ?_).trans ?_
  · show (8 * c.val + t.val) / 8 = c.val
    omega
  · show t.val = (8 * c.val + t.val) % 8
    omega
  · intro b hb
    match b with
    | ⟨0, _⟩ => exact absurd rfl hb
    | ⟨1, _⟩ => rfl
  · pointwise []

/-- The column of `x`, within a chunk, that a column of the selection matrix takes, as the program computes it. -/
def selCol : IVec S512x512 32 :=
  have io : IVec S512x512 32 := iota .tc S512x512 32 [1] iota_S512x512_d1_w32
  have z : IVec S512x512 32 := broadcast S512x512 0#32
  have m : IVec S512x512 32 := broadcast S512x512 128#32
  addi (muli (broadcast S512x512 4#32) (select (andi (xori k0_pay10 k0_pay11) k0_pay9)
      (addi k0_pay8 (broadcast S512x512 (Scalar.select (Scalar.cmpi .eq 128#32 0#32) 1#32 128#32))) k0_pay8))
    (select (andi (cmpi .ne (subi (extui 32 (cmpi .sgt io z) natLt_1_32) (extui 32 (cmpi .slt io z) natLt_1_32))
        (broadcast S512x512 (Scalar.subi (Scalar.extui (Scalar.cmpi .sgt 128#32 0#32)) (Scalar.extui (Scalar.cmpi .slt 128#32 0#32)))))
        (cmpi .ne (remsi io m) z))
      (subi (divsi io m) (broadcast S512x512 1#32)) (divsi io m))

/-- The column taken for column `j`. -/
def taken (j : Fin 512) : Fin 512 := ⟨4 * (j.val % 128) + j.val / 128, by omega⟩

theorem selCol_row0 : ∀ j : Fin 512, selCol (ix2 (0 : Fin 512) j) = BitVec.ofNat 32 (taken j).val := by decide +kernel

theorem selCol_apply (k j : Fin 512) : selCol (ix2 k j) = BitVec.ofNat 32 (taken j).val := (rfl : selCol (ix2 k j) = selCol (ix2 0 j)).trans (selCol_row0 j)

theorem mask_apply (k j : Fin 512) :
    cmpi .eq (iota .tc S512x512 32 [0] iota_S512x512_d0_w32) selCol (ix2 k j) = BitVec.ofBool (decide (k = taken j)) := by
  show IntOp.cmpi .eq (iota .tc S512x512 32 [0] iota_S512x512_d0_w32 (ix2 k j)) (selCol (ix2 k j)) = _
  rw [selCol_apply, show iota .tc S512x512 32 [0] iota_S512x512_d0_w32 (ix2 k j) = BitVec.ofNat 32 k.val by pointwise []]
  show BitVec.ofBool (decide (_ = _)) = _
  congr 1
  rw [decide_eq_decide]
  constructor
  · intro h
    have := congrArg BitVec.toNat h
    simp only [BitVec.toNat_ofNat] at this
    apply Fin.ext
    omega
  · intro h; rw [h]

theorem acts_apply (x0 : Vec Ideal S5x6144 .bf16) (r : Fin 96) (j : Fin 512) :
    acts x0 (ix2 r j) = k0_pay7 (ld x0 (Rect.unit (s := S5x6144) ![0, 0] S5x6144.size inb_S5x6144_S5x6144_0_0)) (ix2 r (taken j)) := by
  show matmul dot_S96x512_S512x512_S96x512_1_0_0_1_n_n none (k0_pay7 (ld x0 (Rect.unit (s := S5x6144) ![0, 0] S5x6144.size inb_S5x6144_S5x6144_0_0)))
    (truncf .bf16 (select (cmpi .eq (iota .tc S512x512 32 [0] iota_S512x512_d0_w32) selCol)
      (broadcast S512x512 (Scalar.ofBits .f32 0x3F800000#32)) (broadcast S512x512 (Scalar.ofBits .f32 0x00000000#32)) : FVec Ideal S512x512 .f32)
      bitsLt_bf16_f32) (constant S96x512 .f32 0x00000000#32) (ix2 r j) = _
  generalize k0_pay7 (ld x0 (Rect.unit (s := S5x6144) ![0, 0] S5x6144.size inb_S5x6144_S5x6144_0_0)) = a
  have hm := fun k => mask_apply k j
  generalize cmpi .eq (iota .tc S512x512 32 [0] iota_S512x512_d0_w32) selCol = mask at hm ⊢
  pointwise []
  refine (Finset.sum_eq_single (taken j) ?_ ?_).trans ?_
  · intro k _ hk
    rw [hm k, decide_eq_false hk]
    rfl
  · intro h; exact absurd (Finset.mem_univ _) h
  · rw [hm, decide_eq_true rfl]
    rfl

/-- The four of lane `l` of chunk `c`. -/
def laneQuad (c : Fin 12) (l : Fin 128) : Fin 1536 := ⟨128 * c.val + l.val, by omega⟩

theorem actOf_apply (x0 : Vec Ideal S5x6144 .bf16) (c : Fin 12) (i : Fin 4) (t : Fin 5) (l : Fin 128) :
    actOf x0 c i (ix2 (row t) l) = Cert.Mirror.act (actsOf x0) t (laneQuad c l) i := by
  have e1 : actOf x0 c i (ix2 (row t) l)
      = acts x0 (ix2 (⟨8 * c.val + t.val, by omega⟩ : Fin 96) (⟨128 * i.val + l.val, by omega⟩ : Fin 512)) := by
    pointwise [actOf, row]
  have e2 : taken (⟨128 * i.val + l.val, by omega⟩ : Fin 512) = ⟨4 * l.val + i.val, by omega⟩ := by
    apply Fin.ext; simp only [taken]; omega
  rw [e1, acts_apply, e2, pay7_apply]
  have e3 : (⟨512 * c.val + (4 * l.val + i.val), by omega⟩ : Fin 6144) = ⟨4 * (laneQuad c l).val + i.val, by simp only [laneQuad]; omega⟩ := by
    apply Fin.ext; simp only [laneQuad]; omega
  rw [Cert.Mirror.act, actsOf, ← e3]
  pointwise []

theorem tabOf_apply (x0 : Vec Ideal S5x6144 .bf16) (c : Fin 12) (e : Fin 8) (t : Fin 5) (l : Fin 128) :
    tabOf x0 c e (ix2 (row t) l) = Cert.Mirror.entry (actsOf x0) t (laneQuad c l) e := by
  have hs : ∀ (b : Bool) (u a : FVec Ideal S8x128 .f32), signed b u a (ix2 (row t) l) = Cert.Mirror.signed b (u (ix2 (row t) l)) (a (ix2 (row t) l)) := by
    intro b u a; cases b <;> rfl
  have h0 : lanes (F := Ideal) 0x00000000#32 (ix2 (row t) l) = 0 := by pointwise [lanes]
  rw [tabOf, Cert.Mirror.entry, hs, hs, hs, hs, actOf_apply, actOf_apply, actOf_apply, actOf_apply, h0]

end Cert.KernelIdeal.Hand

end
-- ==== Proof.Lanes.lean ====
/-
  The exchanges between the lanes of a group, read at a lane: an operation over the group's 32 lanes.
-/
module

public import proofs.«01_k».proof.Proof.Math
public import proofs.«01_k».proof.Proof.Table

@[expose] public section

set_option maxRecDepth 16384

noncomputable section

namespace Cert.KernelIdeal.Hand

open Cert.KernelIdeal Cert.KernelIdeal.Gen
open Idealize.ShloMosaic Idealize.ShloMosaic.TcCoe

/-- An operation over the `2 ^ k` values from number `2 ^ k * m` on. -/
def block {α : Type} (op : α → α → α) (f : ℕ → α) : ℕ → ℕ → α
  | 0, m => f m
  | k + 1, m => op (block op f k (2 * m)) (block op f k (2 * m + 1))

theorem block_add (f : ℕ → EReal) (k m : ℕ) : block (· + ·) f k m = ∑ r ∈ Finset.range (2 ^ k), f (2 ^ k * m + r) := by
  induction k generalizing m with
  | zero => simp [block]
  | succ k ih =>
    rw [block, ih, ih, pow_succ, mul_two, Finset.sum_range_add]
    refine congrArg₂ (· + ·) (Finset.sum_congr rfl fun r _ => congrArg f (by ring)) (Finset.sum_congr rfl fun r _ => congrArg f (by ring))

theorem block_max (f : ℕ → EReal) (k m : ℕ) : block max f k m = (Finset.range (2 ^ k)).sup fun r => f (2 ^ k * m + r) := by
  induction k generalizing m with
  | zero => simp [block]
  | succ k ih =>
    rw [block, ih, ih, pow_succ, mul_two]
    apply le_antisymm
    · refine max_le (Finset.sup_le fun r hr => ?_) (Finset.sup_le fun r hr => ?_)
      · have hr' := Finset.mem_range.1 hr
        refine le_trans (le_of_eq (congrArg f ?_)) (Finset.le_sup (f := fun r => f ((2 ^ k + 2 ^ k) * m + r)) (Finset.mem_range.2 (show r < 2 ^ k + 2 ^ k by omega)))
        ring
      · have hr' := Finset.mem_range.1 hr
        refine le_trans (le_of_eq (congrArg f ?_)) (Finset.le_sup (f := fun r => f ((2 ^ k + 2 ^ k) * m + r)) (Finset.mem_range.2 (show 2 ^ k + r < 2 ^ k + 2 ^ k by omega)))
        ring
    · refine Finset.sup_le fun r hr => ?_
      have hr' := Finset.mem_range.1 hr
      by_cases h : r < 2 ^ k
      · refine le_max_of_le_left (le_trans (le_of_eq (congrArg f ?_)) (Finset.le_sup (f := fun r => f (2 ^ k * (2 * m) + r)) (Finset.mem_range.2 h)))
        ring
      · refine le_max_of_le_right (le_trans (le_of_eq (congrArg f ?_))
          (Finset.le_sup (f := fun r => f (2 ^ k * (2 * m + 1) + r)) (Finset.mem_range.2 (show r - 2 ^ k < 2 ^ k by omega))))
        have : r = 2 ^ k + (r - 2 ^ k) := by omega
        rw [mul_add, mul_one, add_assoc, ← this]
        ring

/-- A lane's block and its neighbour's make the block of the next size. -/
theorem block_step {α : Type} (op : α → α → α) (hc : ∀ a b, op a b = op b a) (f : ℕ → α) (k n n' : ℕ) (h : n' / 2 ^ k = (n / 2 ^ k) ^^^ 1) :
    op (block op f k (n / 2 ^ k)) (block op f k (n' / 2 ^ k)) = block op f (k + 1) (n / 2 ^ (k + 1)) := by
  have hd : n / 2 ^ (k + 1) = n / 2 ^ k / 2 := by rw [pow_succ, Nat.div_div_eq_div_mul]
  rw [h, hd, block]
  generalize n / 2 ^ k = a
  have x1 : (a ^^^ 1) / 2 = a / 2 := by rw [Nat.xor_div_two]; simp
  have x2 : (a ^^^ 1) % 2 = (a + 1) % 2 := by rw [← Nat.and_one_is_mod, ← Nat.and_one_is_mod, Nat.and_xor_distrib_right]; simp only [Nat.and_one_is_mod, Nat.and_self]; rcases Nat.mod_two_eq_zero_or_one a with h | h <;> rw [h] <;> simp <;> omega
  rcases Nat.even_or_odd a with ⟨b, hb⟩ | ⟨b, hb⟩
  · have e1 : a / 2 = b := by omega
    have e2 : a ^^^ 1 = 2 * b + 1 := by omega
    rw [e1, e2, show a = 2 * b by omega]
  · have e1 : a / 2 = b := by omega
    have e2 : a ^^^ 1 = 2 * b := by omega
    rw [e1, e2, hb, hc]

/-- The lane whose number differs in the bit `2 ^ k`. -/
def flip (k : Fin 5) (l : Fin 128) : Fin 128 := ⟨l.val ^^^ 2 ^ k.val, by revert k l; decide +kernel⟩

theorem partner_apply (k : Fin 5) (v : FVec Ideal S8x128 .f32) (r : Fin 8) (l : Fin 128) :
    partner (2 ^ k.val) v (ix2 r l) = v (ix2 r (flip k l)) := by
  have hk : ∀ (k : Fin 5) (l : Fin 128), IntOp.cmpi .ne (IntOp.andi (BitVec.ofNat 32 l.val) (BitVec.ofNat 32 (2 ^ k.val))) (BitVec.ofNat 32 0)
      = (if 2 ^ k.val ≤ l.val % (2 * 2 ^ k.val) then 1#1 else 0#1) := by decide +kernel
  have hl : ∀ (k : Fin 5) (l : Fin 128), 2 ^ k.val ≤ l.val % (2 * 2 ^ k.val) →
      (l.val + 128 - (BitVec.ofNat 32 (2 ^ k.val)).toNat % 128) % 128 = (flip k l).val := by decide +kernel
  have hr : ∀ (k : Fin 5) (l : Fin 128), ¬ 2 ^ k.val ≤ l.val % (2 * 2 ^ k.val) →
      (l.val + 128 - (BitVec.ofNat 32 (128 - 2 ^ k.val)).toNat % 128) % 128 = (flip k l).val := by decide +kernel
  have rot : ∀ n : BitVec 32, dynamicRotate 1 n none v rotates_S8x128_d1 (ix2 r l)
      = v (ix2 r ⟨(l.val + 128 - n.toNat % 128) % 128, Nat.mod_lt _ (by decide)⟩) := by
    intro n
    pointwise []
  have io : (laneNo (ix2 r l) : BitVec 32) = BitVec.ofNat 32 l.val := by pointwise [laneNo]
  show Scalar.select (IntOp.cmpi .ne (IntOp.andi (laneNo (ix2 r l)) (BitVec.ofNat 32 (2 ^ k.val))) (BitVec.ofNat 32 0))
    (dynamicRotate 1 (BitVec.ofNat 32 (2 ^ k.val)) none v rotates_S8x128_d1 (ix2 r l))
    (dynamicRotate 1 (BitVec.ofNat 32 (128 - 2 ^ k.val)) none v rotates_S8x128_d1 (ix2 r l)) = _
  rw [rot, rot, io, hk]
  by_cases h : 2 ^ k.val ≤ l.val % (2 * 2 ^ k.val)
  · rw [if_pos h]
    exact congrArg (fun q => v (ix2 r q)) (Fin.ext (hl k l h))
  · rw [if_neg h]
    exact congrArg (fun q => v (ix2 r q)) (Fin.ext (hr k l h))

/-- A lane's values by number, for the blocks. -/
def laneVal (v : FVec Ideal S8x128 .f32) (r : Fin 8) (n : ℕ) : EReal := v (ix2 r (⟨n % 128, Nat.mod_lt _ (by decide)⟩ : Fin 128))

theorem groupFold_block (op : EReal → EReal → EReal) (hc : ∀ a b, op a b = op b a) (v : FVec Ideal S8x128 .f32) (r : Fin 8) (l : Fin 128) :
    groupFold (fun a b i => op (a i) (b i)) v (ix2 r l) = block op (laneVal v r) 5 (l.val / 32) := by
  have hf : ∀ (k : Fin 5) (l : Fin 128), (flip k l).val / 2 ^ k.val = (l.val / 2 ^ k.val) ^^^ 1 := by decide +kernel
  have step : ∀ (k : Fin 5) (u : FVec Ideal S8x128 .f32), (∀ l : Fin 128, u (ix2 r l) = block op (laneVal v r) k.val (l.val / 2 ^ k.val)) →
      ∀ l : Fin 128, op (u (ix2 r l)) (partner (2 ^ k.val) u (ix2 r l)) = block op (laneVal v r) (k.val + 1) (l.val / 2 ^ (k.val + 1)) := by
    intro k u hu l
    rw [partner_apply, hu, hu]
    exact block_step op hc _ k.val l.val (flip k l).val (hf k l)
  have h0 : ∀ l : Fin 128, v (ix2 r l) = block op (laneVal v r) (0 : Fin 5).val (l.val / 2 ^ (0 : Fin 5).val) := by
    intro l
    show v (ix2 r l) = v (ix2 r (⟨l.val / 2 ^ 0 % 128, _⟩ : Fin 128))
    congr 2
    apply Fin.ext
    show l.val = l.val / 2 ^ 0 % 128
    omega
  let v1 : FVec Ideal S8x128 .f32 := fun i => op (v i) (partner 1 v i)
  let v2 : FVec Ideal S8x128 .f32 := fun i => op (v1 i) (partner 2 v1 i)
  let v3 : FVec Ideal S8x128 .f32 := fun i => op (v2 i) (partner 4 v2 i)
  let v4 : FVec Ideal S8x128 .f32 := fun i => op (v3 i) (partner 8 v3 i)
  exact step 4 v4 (step 3 v3 (step 2 v2 (step 1 v1 (step 0 v h0)))) l

/-- The lanes of a lane's group. -/
def groupLane (l : Fin 128) (s : Fin 32) : Fin 128 := ⟨32 * (l.val / 32) + s.val, by omega⟩

theorem laneVal_group (v : FVec Ideal S8x128 .f32) (r : Fin 8) (l : Fin 128) (s : Fin 32) :
    laneVal v r (2 ^ 5 * (l.val / 32) + s.val) = v (ix2 r (groupLane l s)) := by
  unfold laneVal groupLane
  congr 2
  apply Fin.ext
  show (2 ^ 5 * (l.val / 32) + s.val) % 128 = 32 * (l.val / 32) + s.val
  omega

theorem groupFold_add (v : FVec Ideal S8x128 .f32) (r : Fin 8) (l : Fin 128) :
    groupFold addf v (ix2 r l) = ∑ s : Fin 32, v (ix2 r (groupLane l s)) := by
  refine (groupFold_block (· + ·) add_comm v r l).trans ?_
  rw [block_add]
  refine (Finset.sum_range (fun s => laneVal v r (2 ^ 5 * (l.val / 32) + s))).trans ?_
  exact Finset.sum_congr rfl fun s _ => laneVal_group v r l s

theorem groupFold_max (v : FVec Ideal S8x128 .f32) (r : Fin 8) (l : Fin 128) :
    groupFold maximumf v (ix2 r l) = Finset.univ.sup fun s : Fin 32 => v (ix2 r (groupLane l s)) := by
  refine (groupFold_block max max_comm v r l).trans ?_
  rw [block_max]
  apply le_antisymm
  · refine Finset.sup_le fun s hs => ?_
    have hs' : s < 32 := Finset.mem_range.1 hs
    exact (le_of_eq (laneVal_group v r l ⟨s, hs'⟩)).trans
      (Finset.le_sup (f := fun s : Fin 32 => (v (ix2 r (groupLane l s)) : EReal)) (Finset.mem_univ (⟨s, hs'⟩ : Fin 32)))
  · refine Finset.sup_le fun s _ => ?_
    exact (le_of_eq (laneVal_group v r l s).symm).trans
      (Finset.le_sup (f := fun s => laneVal v r (2 ^ 5 * (l.val / 32) + s)) (Finset.mem_range.2 s.isLt))

end Cert.KernelIdeal.Hand

end
-- ==== Proof.TableValue.lean ====
/-
  The kernel's scale, codes and code sums at an index: the shared mathematics of `Math`.
-/
module

public import proofs.«01_k».proof.Proof.ActValue
public import proofs.«01_k».proof.Proof.Lanes

@[expose] public section

set_option maxRecDepth 16384

noncomputable section

namespace Cert.KernelIdeal.Hand

open Cert.KernelIdeal Cert.KernelIdeal.Gen
open Idealize.ShloMosaic Idealize.ShloMosaic.TcCoe
open Idealize.ShloMosaic.View (ld)

variable (x0 : Vec Ideal S5x6144 .bf16) (c : Fin 12) (t : Fin 5)

theorem lanes_127 (i : S8x128.Idx) : lanes (F := Ideal) 0x42FE0000#32 i = ((127 : ℝ) : EReal) := by
  show Ideal.ofBits .f32 0x42FE0000#32 = _
  simp [Ideal.ofBits, Ideal.ieee, -EReal.coe_mul]; norm_num

theorem lanes_m127 (i : S8x128.Idx) : lanes (F := Ideal) 0xC2FE0000#32 i = ((-127 : ℝ) : EReal) := by
  show Ideal.ofBits .f32 0xC2FE0000#32 = _
  simp [Ideal.ofBits, Ideal.ieee, -EReal.coe_mul]; norm_num

theorem lanes_zero (i : S8x128.Idx) : lanes (F := Ideal) 0x00000000#32 i = (0 : EReal) := Ideal.ofBits_zero_f32
theorem lanes_one (i : S8x128.Idx) : lanes (F := Ideal) 0x3F800000#32 i = (1 : EReal) := Ideal.ofBits_one_f32

theorem laneMax_apply (l : Fin 128) : laneMax x0 c (ix2 (row t) l) = Cert.Mirror.greatest (actsOf x0) t (laneQuad c l) := by
  have h : ∀ e, absf (tabOf x0 c e) (ix2 (row t) l) = Cert.Mirror.mag (Cert.Mirror.entry (actsOf x0) t (laneQuad c l) e) := by
    intro e
    show max (tabOf x0 c e (ix2 (row t) l)) (-(tabOf x0 c e (ix2 (row t) l))) = _
    rw [tabOf_apply]; rfl
  show max (max (max (max (max (max (max (absf (tabOf x0 c 0) (ix2 (row t) l)) (absf (tabOf x0 c 1) (ix2 (row t) l))) (absf (tabOf x0 c 2) (ix2 (row t) l)))
    (absf (tabOf x0 c 3) (ix2 (row t) l))) (absf (tabOf x0 c 4) (ix2 (row t) l))) (absf (tabOf x0 c 5) (ix2 (row t) l))) (absf (tabOf x0 c 6) (ix2 (row t) l)))
    (absf (tabOf x0 c 7) (ix2 (row t) l)) = _
  rw [h, h, h, h, h, h, h, h, Cert.Mirror.greatest]
  have hu : (Finset.univ : Finset (Fin 8)) = {0, 1, 2, 3, 4, 5, 6, 7} := by decide
  rw [hu]
  simp only [Finset.sup_insert, Finset.sup_singleton, max_assoc]

theorem laneQuad_group (l : Fin 128) (s : Fin 32) :
    laneQuad c (groupLane l s) = Cert.Mirror.quad (Cert.Mirror.groupOf (laneQuad c l)) s := by
  apply Fin.ext
  simp only [laneQuad, groupLane, Cert.Mirror.quad, Cert.Mirror.groupOf]
  omega

theorem scaleOf_apply (l : Fin 128) :
    scaleOf x0 c (ix2 (row t) l) = Cert.Mirror.scale (actsOf x0) t (Cert.Mirror.groupOf (laneQuad c l)) := by
  have hm : groupFold maximumf (laneMax x0 c) (ix2 (row t) l) = Cert.Mirror.groupMax (actsOf x0) t (Cert.Mirror.groupOf (laneQuad c l)) := by
    rw [groupFold_max, Cert.Mirror.groupMax]
    refine Finset.sup_congr rfl fun s _ => ?_
    rw [laneMax_apply, laneQuad_group]
  unfold scaleOf
  generalize groupFold maximumf (laneMax x0 c) = m at hm ⊢
  pointwise []
  rw [lanes_127, lanes_one, lanes_zero, hm]
  rfl

theorem codeOf_apply (e : Fin 8) (l : Fin 128) :
    codeOf x0 c e (ix2 (row t) l) = Cert.Mirror.code (actsOf x0) t (laneQuad c l) e := by
  pointwise [codeOf]
  rw [lanes_127, lanes_m127, scaleOf_apply, tabOf_apply]
  rfl

theorem zsumOf_apply (l : Fin 128) :
    zsumOf x0 c (ix2 (row t) l) = 0 - ∑ s : Fin 32, Cert.Mirror.code (actsOf x0) t (Cert.Mirror.quad (Cert.Mirror.groupOf (laneQuad c l)) s) 0 := by
  show lanes (F := Ideal) 0x00000000#32 (ix2 (row t) l) - groupFold addf (codeOf x0 c 0) (ix2 (row t) l) = _
  rw [lanes_zero, groupFold_add]
  congr 1
  refine Finset.sum_congr rfl fun s _ => ?_
  rw [codeOf_apply, laneQuad_group]

theorem pick_apply (v : FVec Ideal S8x128 .f32) (idx : IVec S8x128 32) (r : Fin 8) (l q : Fin 128) (h : idx (ix2 r l) = BitVec.ofNat 32 q.val) :
    pick v idx (ix2 r l) = v (ix2 r q) := by
  have hw : ∀ q : Fin 128, (Scalar.select (IntOp.cmpi .slt (BitVec.ofNat 32 q.val) (BitVec.ofNat 32 0)) (IntOp.addi (BitVec.ofNat 32 q.val) (BitVec.ofNat 32 128))
      (BitVec.ofNat 32 q.val) : BitVec 32).toNat % 128 = q.val := by decide +kernel
  have hi : (shapeCast S8x128 (shapeCast S8x128x1 (select (cmpi .slt idx (ilanes 0)) (addi idx (ilanes 128)) idx : IVec S8x128 32)
      shapeCasts_S8x128_S8x128x1 : IVec S8x128x1 32) shapeCasts_S8x128x1_S8x128 : IVec S8x128 32) (ix2 r l)
      = Scalar.select (IntOp.cmpi .slt (idx (ix2 r l)) (BitVec.ofNat 32 0)) (IntOp.addi (idx (ix2 r l)) (BitVec.ofNat 32 128)) (idx (ix2 r l)) := by
    pointwise [ilanes]
  unfold pick dynamicGather
  refine congrArg v (funext fun b => ?_)
  match b with
  | ⟨0, _⟩ => rfl
  | ⟨1, _⟩ =>
    apply Fin.ext
    refine Eq.trans ?_ (hw q)
    rw [← h, ← hi]
    rfl

/-- Group `q` of chunk `c`. -/
def groupNo (c : Fin 12) (q : Fin 4) : Fin 48 := ⟨4 * c.val + q.val, by omega⟩

theorem groupOf_first (q : Fin 4) : Cert.Mirror.groupOf (laneQuad c ⟨32 * q.val, by omega⟩) = groupNo c q := by
  apply Fin.ext; simp only [Cert.Mirror.groupOf, laneQuad, groupNo]; omega

theorem grpScale_apply (q : Fin 4) (l : Fin 128) : grpScale x0 c q (ix2 (row t) l) = Cert.Mirror.scale (actsOf x0) t (groupNo c q) := by
  rw [grpScale, pick_apply _ _ _ _ ⟨32 * q.val, by omega⟩ rfl, scaleOf_apply, groupOf_first]

theorem grpZ_apply (q : Fin 4) (l : Fin 128) : pick (zsumOf x0 c) (ilanes (32 * q.val)) (ix2 (row t) l)
    = 0 - ∑ s : Fin 32, Cert.Mirror.code (actsOf x0) t (Cert.Mirror.quad (groupNo c q) s) 0 := by
  rw [pick_apply _ _ _ _ ⟨32 * q.val, by omega⟩ rfl, zsumOf_apply, groupOf_first]

theorem scalesUpTo_apply (n : ℕ) (hn : n ≤ 48) (g : Fin 48) (hg : g.val < n) :
    scalesUpTo x0 n hn (ix2 (row t) (⟨g.val, by omega⟩ : Fin 128)) = Cert.Mirror.scale (actsOf x0) t g := by
  induction n with
  | zero => exact absurd hg (Nat.not_lt_zero _)
  | succ n ih =>
    have hc : ∀ (g n : Fin 48), IntOp.cmpi .eq (BitVec.ofNat 32 g.val) (BitVec.ofNat 32 n.val) = if g = n then 1#1 else 0#1 := by decide +kernel
    have io : (laneNo (ix2 (row t) (⟨g.val, by omega⟩ : Fin 128)) : BitVec 32) = BitVec.ofNat 32 g.val := by pointwise [laneNo]
    show Scalar.select (IntOp.cmpi .eq (laneNo (ix2 (row t) (⟨g.val, by omega⟩ : Fin 128))) (BitVec.ofNat 32 n))
      (grpScale x0 ⟨n / 4, by omega⟩ ⟨n % 4, Nat.mod_lt _ (by decide)⟩ (ix2 (row t) (⟨g.val, by omega⟩ : Fin 128)))
      (scalesUpTo x0 n (Nat.le_of_succ_le hn) (ix2 (row t) (⟨g.val, by omega⟩ : Fin 128))) = _
    rw [io, hc g ⟨n, by omega⟩, grpScale_apply]
    by_cases h : g = ⟨n, by omega⟩
    · rw [if_pos h]
      refine congrArg (Cert.Mirror.scale (actsOf x0) t) (Fin.ext ?_)
      rw [h]
      show 4 * (n / 4) + n % 4 = n
      omega
    · rw [if_neg h]
      exact ih _ (by have : g.val ≠ n := fun e => h (Fin.ext e); omega)

theorem scalesOut_apply (g : Fin 48) : scalesOut x0 (ix3 t (0 : Fin 1) g) = Cert.Mirror.scale (actsOf x0) t g := by
  refine Eq.trans ?_ (scalesUpTo_apply x0 t 48 le_rfl g g.isLt)
  pointwise [scalesOut, k0_pay1594, row]

theorem codesOut_apply (e : Fin 8) (l : Fin 1536) :
    codesOut x0 (ix3 t e l) = (Ideal.fptosi 32 (Cert.Mirror.code (actsOf x0) t l e)).setWidth 8 := by
  have h : codeTab x0 (ix3 (row t) e l) = Cert.Mirror.code (actsOf x0) t l e := by
    show codePiece x0 ⟨l.val / 128, by omega⟩ e (ix3 (row t) (0 : Fin 1) (⟨l.val % 128, Nat.mod_lt _ (by decide)⟩ : Fin 128)) = _
    have e1 : codePiece x0 ⟨l.val / 128, by omega⟩ e (ix3 (row t) (0 : Fin 1) (⟨l.val % 128, Nat.mod_lt _ (by decide)⟩ : Fin 128))
        = codeOf x0 ⟨l.val / 128, by omega⟩ e (ix2 (row t) (⟨l.val % 128, Nat.mod_lt _ (by decide)⟩ : Fin 128)) := by
      pointwise [codePiece]
    rw [e1, codeOf_apply]
    congr 1
    apply Fin.ext
    show 128 * (l.val / 128) + l.val % 128 = l.val
    omega
  rw [← h]
  show codeRow x0 (row t) (ix3 (0 : Fin 1) e l) = _
  pointwise [codeRow, k0_pay1593]
  rfl

end Cert.KernelIdeal.Hand

end
-- ==== Proof.Coef.lean ====
/-
  The coefficient tables at an index: the Walsh sums of the codes, spread over lanes and split in two parts.
-/
module

public import proofs.«01_k».proof.Proof.Walsh
public import proofs.«01_k».proof.Proof.TableValue

@[expose] public section

set_option maxRecDepth 16384

noncomputable section

namespace Cert.KernelIdeal.Hand

open Cert.KernelIdeal Cert.KernelIdeal.Gen
open Idealize.ShloMosaic Idealize.ShloMosaic.TcCoe
open Idealize.ShloMosaic.View (ld)

/-- The lane of feature `f` and byte `r`. -/
def laneAt (f : Fin 4) (r : Fin 32) : Fin 128 := ⟨32 * f.val + r.val, by omega⟩

theorem featNo_apply : ∀ t : Fin 8, ∀ f : Fin 4, ∀ r : Fin 32, featNo (ix2 t (laneAt f r)) = BitVec.ofNat 32 f.val := by decide +kernel
theorem byteNo_apply : ∀ t : Fin 8, ∀ f : Fin 4, ∀ r : Fin 32, byteNo (ix2 t (laneAt f r)) = BitVec.ofNat 32 r.val := by decide +kernel
theorem isFirst_apply : ∀ t : Fin 8, ∀ f : Fin 4, ∀ r : Fin 32, isFirst (ix2 t (laneAt f r)) = BitVec.ofBool (decide (r.val < 16)) := by decide +kernel

/-- The lane, within the chunk, of nibble `h` of byte `r` of pair `q`. -/
def nibLane (q h : Fin 2) (r : Fin 32) : Fin 128 := ⟨64 * q.val + 2 * r.val + h.val, by omega⟩

theorem nibNo_apply (q h : Fin 2) (t : Fin 8) (f : Fin 4) (r : Fin 32) : nibNo q h (ix2 t (laneAt f r)) = BitVec.ofNat 32 (nibLane q h r).val := by
  have e : ∀ q h : Fin 2, ∀ r : Fin 32, IntOp.addi (IntOp.addi (BitVec.ofNat 32 (64 * q.val)) (IntOp.muli (BitVec.ofNat 32 2) (BitVec.ofNat 32 r.val))) (BitVec.ofNat 32 h.val)
      = BitVec.ofNat 32 (nibLane q h r).val := by decide +kernel
  rw [← e, ← byteNo_apply t f r]
  rfl

variable (x0 : Vec Ideal S5x6144 .bf16) (c : Fin 12) (t : Fin 5)

/-- The integer codes of a lane. -/
def ints (l : Fin 128) : Fin 8 → ℤ := fun e => Cert.Mirror.codeInt (actsOf x0) t (laneQuad c l) e

theorem codeOf_int (e : Fin 8) (l : Fin 128) : codeOf x0 c e (ix2 (row t) l) = ((ints x0 c t l e : ℝ) : EReal) := by
  rw [codeOf_apply]
  exact (Cert.Mirror.code_eq _ _ _ _).2

theorem had_apply (b : Bool) (lo hi : FVec Ideal S8x128 .f32) (i : S8x128.Idx) (m n : ℤ) (hl : lo i = ((m : ℝ) : EReal)) (hh : hi i = ((n : ℝ) : EReal)) :
    had b lo hi i = ((Cert.Mirror.had b m n : ℝ) : EReal) := by
  cases b
  · show lo i + hi i = _
    rw [hl, hh, Cert.Mirror.had, cond_false, Int.cast_add, EReal.coe_add]
  · show hi i - lo i = _
    rw [hl, hh, Cert.Mirror.had, cond_true, Int.cast_sub, EReal.coe_sub]

theorem walsh_apply (k : Fin 8) (l : Fin 128) : walsh x0 c k (ix2 (row t) l) = ((Cert.Mirror.walsh (ints x0 c t l) k : ℝ) : EReal) := by
  have h := fun e => codeOf_int x0 c t e l
  exact had_apply _ _ _ _ _ _
    (had_apply _ _ _ _ _ _ (had_apply _ _ _ _ _ _ (h 0) (h 1)) (had_apply _ _ _ _ _ _ (h 2) (h 3)))
    (had_apply _ _ _ _ _ _ (had_apply _ _ _ _ _ _ (h 4) (h 5)) (had_apply _ _ _ _ _ _ (h 6) (h 7)))

theorem nwalsh_apply (k : Fin 8) (l : Fin 128) : nwalsh x0 c k (ix2 (row t) l) = (((-Cert.Mirror.walsh (ints x0 c t l) k : ℤ) : ℝ) : EReal) := by
  show lanes (F := Ideal) 0x00000000#32 (ix2 (row t) l) - walsh x0 c k (ix2 (row t) l) = _
  rw [lanes_zero, walsh_apply, zero_sub, Int.cast_neg, EReal.coe_neg]

theorem lanes_quarter (i : S8x128.Idx) : lanes (F := Ideal) 0x3E800000#32 i = ((1 / 4 : ℝ) : EReal) := by
  show Ideal.ofBits .f32 0x3E800000#32 = _
  simp [Ideal.ofBits, Ideal.ieee, -EReal.coe_mul]; norm_num
theorem lanes_64 (i : S8x128.Idx) : lanes (F := Ideal) 0x42800000#32 i = ((64 : ℝ) : EReal) := by
  show Ideal.ofBits .f32 0x42800000#32 = _
  simp [Ideal.ofBits, Ideal.ieee, -EReal.coe_mul]; norm_num

theorem byFeat_apply (v : Fin 4 → FVec Ideal S8x128 .f32) (s : Fin 8) (f : Fin 4) (r : Fin 32) :
    byFeat (v 0) (v 1) (v 2) (v 3) (ix2 s (laneAt f r)) = v f (ix2 s (laneAt f r)) := by
  have e : byFeat (v 0) (v 1) (v 2) (v 3) (ix2 s (laneAt f r))
      = Scalar.select (IntOp.cmpi .eq (featNo (ix2 s (laneAt f r))) 2#32) (v 2 (ix2 s (laneAt f r)))
        (Scalar.select (IntOp.cmpi .eq (featNo (ix2 s (laneAt f r))) 1#32) (v 1 (ix2 s (laneAt f r)))
          (Scalar.select (IntOp.cmpi .eq (featNo (ix2 s (laneAt f r))) 0#32) (v 0 (ix2 s (laneAt f r))) (v 3 (ix2 s (laneAt f r))))) := rfl
  rw [e, featNo_apply]
  generalize laneAt f r = l
  match f with
  | ⟨0, _⟩ => rfl
  | ⟨1, _⟩ => rfl
  | ⟨2, _⟩ => rfl
  | ⟨3, _⟩ => rfl

/-- What a linear coefficient is divided by, beside the feature's place. -/
def linQ : Fin 4 → ℝ := ![1, 1 / 4, 1, 1 / 4]
/-- What a cubic coefficient is divided by. -/
def cubQ : Fin 4 → ℝ := ![1, 1, 1 / 4, 1 / 4]

theorem pickMul (w : FVec Ideal S8x128 .f32) (b : BitVec 32) (q h : Fin 2) (f : Fin 4) (r : Fin 32) (m : ℤ) (y : ℝ)
    (hw : w (ix2 (row t) (nibLane q h r)) = ((m : ℝ) : EReal)) (hb : ∀ i : S8x128.Idx, lanes (F := Ideal) b i = ((y : ℝ) : EReal)) :
    mulf (pick w (nibNo q h)) (lanes b) (ix2 (row t) (laneAt f r)) = ((m * y : ℝ) : EReal) := by
  show pick w (nibNo q h) (ix2 (row t) (laneAt f r)) * lanes (F := Ideal) b (ix2 (row t) (laneAt f r)) = _
  rw [pick_apply w _ _ _ (nibLane q h r) (nibNo_apply q h _ f r), hw, hb, EReal.coe_mul]

theorem lanes_one' (i : S8x128.Idx) : lanes (F := Ideal) 0x3F800000#32 i = ((1 : ℝ) : EReal) := (lanes_one i).trans EReal.coe_one.symm

theorem linVal_apply (q h : Fin 2) (f : Fin 4) (r : Fin 32) :
    linVal x0 c q h (ix2 (row t) (laneAt f r)) = ((Cert.Mirror.linC (ints x0 c t (nibLane q h r)) f * linQ f : ℝ) : EReal) := by
  refine (byFeat_apply ![mulf (pick (walsh x0 c 1) (nibNo q h)) (lanes 0x3F800000#32), mulf (pick (walsh x0 c 4) (nibNo q h)) (lanes 0x3E800000#32),
    mulf (pick (walsh x0 c 2) (nibNo q h)) (lanes 0x3F800000#32), mulf (pick (nwalsh x0 c 0) (nibNo q h)) (lanes 0x3E800000#32)] (row t) f r).trans ?_
  match f with
  | ⟨0, _⟩ => exact pickMul t _ _ q h _ r _ _ (walsh_apply x0 c t _ _) lanes_one'
  | ⟨1, _⟩ => exact pickMul t _ _ q h _ r _ _ (walsh_apply x0 c t _ _) lanes_quarter
  | ⟨2, _⟩ => exact pickMul t _ _ q h _ r _ _ (walsh_apply x0 c t _ _) lanes_one'
  | ⟨3, _⟩ => exact pickMul t _ _ q h _ r _ _ (nwalsh_apply x0 c t _ _) lanes_quarter

theorem cubVal_apply (q h : Fin 2) (f : Fin 4) (r : Fin 32) :
    cubVal x0 c q h (ix2 (row t) (laneAt f r)) = ((Cert.Mirror.cubC (ints x0 c t (nibLane q h r)) f * cubQ f : ℝ) : EReal) := by
  refine (byFeat_apply ![mulf (pick (nwalsh x0 c 5) (nibNo q h)) (lanes 0x3F800000#32), mulf (pick (nwalsh x0 c 6) (nibNo q h)) (lanes 0x3F800000#32),
    mulf (pick (walsh x0 c 7) (nibNo q h)) (lanes 0x3E800000#32), mulf (pick (nwalsh x0 c 3) (nibNo q h)) (lanes 0x3E800000#32)] (row t) f r).trans ?_
  match f with
  | ⟨0, _⟩ => exact pickMul t _ _ q h _ r _ _ (nwalsh_apply x0 c t _ _) lanes_one'
  | ⟨1, _⟩ => exact pickMul t _ _ q h _ r _ _ (nwalsh_apply x0 c t _ _) lanes_one'
  | ⟨2, _⟩ => exact pickMul t _ _ q h _ r _ _ (walsh_apply x0 c t _ _) lanes_quarter
  | ⟨3, _⟩ => exact pickMul t _ _ q h _ r _ _ (nwalsh_apply x0 c t _ _) lanes_quarter

theorem stepOf_real (i : S8x128.Idx) : ∃ s : ℝ, s ≠ 0 ∧ stepOf (F := Ideal) i = ((s : ℝ) : EReal) := by
  have h16 : Ideal.ofBits .f32 0x41800000#32 = ((16 : ℝ) : EReal) := by
    simp [Ideal.ofBits, Ideal.ieee, -EReal.coe_mul]; norm_num
  have h4 : Ideal.ofBits .f32 0x40800000#32 = ((4 : ℝ) : EReal) := by
    simp [Ideal.ofBits, Ideal.ieee, -EReal.coe_mul]; norm_num
  have e : stepOf (F := Ideal) i = Scalar.select (IntOp.cmpi .eq (featNo i) 2#32) (Ideal.ofBits .f32 0x41800000#32)
      (Scalar.select (IntOp.cmpi .eq (featNo i) 1#32) (Ideal.ofBits .f32 0x40800000#32)
        (Scalar.select (IntOp.cmpi .eq (featNo i) 0#32) (Ideal.ofBits .f32 0x41800000#32) (Ideal.ofBits .f32 0x40800000#32))) := rfl
  rw [e, h16, h4]
  unfold Scalar.select
  split_ifs <;> first | exact ⟨16, by norm_num, rfl⟩ | exact ⟨4, by norm_num, rfl⟩

theorem hiOf_real (v : FVec Ideal S8x128 .f32) (i : S8x128.Idx) (y : ℝ) (hv : v i = (y : EReal)) : ∃ z : ℝ, hiOf v i = (z : EReal) := by
  obtain ⟨s, hs, he⟩ := stepOf_real i
  have e : hiOf v i = Ideal.liftRound Ideal.roundHalfEven (Ideal.div (v i) (stepOf (F := Ideal) i)) * stepOf (F := Ideal) i := rfl
  rw [e, he, hv, Ideal.div_coe hs, ← EReal.coe_mul, Ideal.liftRound_coe, ← EReal.coe_mul]
  exact ⟨_, rfl⟩

theorem inFirst_apply (v : FVec Ideal S8x128 .f32) (s : Fin 8) (f : Fin 4) (r : Fin 32) :
    inFirst v (ix2 s (laneAt f r)) = if r.val < 16 then v (ix2 s (laneAt f r)) else 0 := by
  have e : inFirst v (ix2 s (laneAt f r)) = Scalar.select (isFirst (ix2 s (laneAt f r))) (v (ix2 s (laneAt f r))) (lanes (F := Ideal) 0x00000000#32 (ix2 s (laneAt f r))) := rfl
  rw [e, isFirst_apply, lanes_zero]
  by_cases h : r.val < 16
  · rw [if_pos h, decide_eq_true h]; rfl
  · rw [if_neg h, decide_eq_false h]; rfl

theorem inSecond_apply (v : FVec Ideal S8x128 .f32) (s : Fin 8) (f : Fin 4) (r : Fin 32) :
    inSecond v (ix2 s (laneAt f r)) = if r.val < 16 then 0 else v (ix2 s (laneAt f r)) := by
  have e : inSecond v (ix2 s (laneAt f r)) = Scalar.select (isFirst (ix2 s (laneAt f r))) (lanes (F := Ideal) 0x00000000#32 (ix2 s (laneAt f r))) (v (ix2 s (laneAt f r))) := rfl
  rw [e, isFirst_apply, lanes_zero]
  by_cases h : r.val < 16
  · rw [if_pos h, decide_eq_true h]; rfl
  · rw [if_neg h, decide_eq_false h]; rfl

/-- The value in the lanes of one group of the pair. -/
def inGroup (u : Fin 2) (v : FVec Ideal S8x128 .f32) : FVec Ideal S8x128 .f32 := ![inFirst v, inSecond v] u

theorem inGroup_apply (u : Fin 2) (v : FVec Ideal S8x128 .f32) (s : Fin 8) (f : Fin 4) (r : Fin 32) :
    inGroup u v (ix2 s (laneAt f r)) = if r.val / 16 = u.val then v (ix2 s (laneAt f r)) else 0 := by
  match u with
  | ⟨0, _⟩ =>
    refine (inFirst_apply v s f r).trans ?_
    by_cases h : r.val < 16
    · rw [if_pos h, if_pos (show r.val / 16 = 0 by omega)]
    · rw [if_neg h, if_neg (show ¬ r.val / 16 = 0 by omega)]
  | ⟨1, _⟩ =>
    refine (inSecond_apply v s f r).trans ?_
    by_cases h : r.val < 16
    · rw [if_pos h, if_neg (show ¬ r.val / 16 = 1 by omega)]
    · rw [if_neg h, if_pos (show r.val / 16 = 1 by omega)]

theorem lift32 (v : FVec Ideal S32x128 .f32) (r : Fin 32) (l : Fin 128) :
    (shapeCast S1x32x128 (truncf .bf16 v bitsLt_bf16_f32 : FVec Ideal S32x128 .bf16) shapeCasts_S32x128_S1x32x128 : FVec Ideal S1x32x128 .bf16) (ix3 (0 : Fin 1) r l)
      = v (ix2 r l) := by
  pointwise

theorem lift16 (v : FVec Ideal S16x128 .f32) (r : Fin 16) (l : Fin 128) :
    (shapeCast S1x16x128 (truncf .bf16 v bitsLt_bf16_f32 : FVec Ideal S16x128 .bf16) shapeCasts_S16x128_S1x16x128 : FVec Ideal S1x16x128 .bf16) (ix3 (0 : Fin 1) r l)
      = v (ix2 r l) := by
  pointwise

theorem stack4_apply (f : Fin 4 → FVec Ideal S8x128 .f32) (j : Fin 4) (s : Fin 8) (l : Fin 128) :
    (concatenate S32x128 0 [⟨S8x128, f 0⟩, ⟨S8x128, f 1⟩, ⟨S8x128, f 2⟩, ⟨S8x128, f 3⟩]
      concatenates_S8x128_S8x128_S8x128_S8x128_S32x128_d0 : FVec Ideal S32x128 .f32) (ix2 (⟨8 * j.val + s.val, by omega⟩ : Fin 32) l) = f j (ix2 s l) := by
  refine concatenate_ofFn_apply (t := S32x128) (s₁ := S8x128) 0 f
    concatenates_S8x128_S8x128_S8x128_S8x128_S32x128_d0 rfl 8 rfl (ix2 (⟨8 * j.val + s.val, by omega⟩ : Fin 32) l) j ?_ (ix2 s l) ?_ ?_
  · show (8 * j.val + s.val) / 8 = j.val
    omega
  · show s.val = (8 * j.val + s.val) % 8
    omega
  · intro b hb
    match b with
    | ⟨0, _⟩ => exact absurd rfl hb
    | ⟨1, _⟩ => rfl

theorem stack2_apply (f : Fin 2 → FVec Ideal S8x128 .f32) (j : Fin 2) (s : Fin 8) (l : Fin 128) :
    (concatenate S16x128 0 [⟨S8x128, f 0⟩, ⟨S8x128, f 1⟩]
      concatenates_S8x128_S8x128_S16x128_d0 : FVec Ideal S16x128 .f32) (ix2 (⟨8 * j.val + s.val, by omega⟩ : Fin 16) l) = f j (ix2 s l) := by
  refine concatenate_ofFn_apply (t := S16x128) (s₁ := S8x128) 0 f
    concatenates_S8x128_S8x128_S16x128_d0 rfl 8 rfl (ix2 (⟨8 * j.val + s.val, by omega⟩ : Fin 16) l) j ?_ (ix2 s l) ?_ ?_
  · show (8 * j.val + s.val) / 8 = j.val
    omega
  · show s.val = (8 * j.val + s.val) % 8
    omega
  · intro b hb
    match b with
    | ⟨0, _⟩ => exact absurd rfl hb
    | ⟨1, _⟩ => rfl

/-- The two parts a linear coefficient is split in. -/
def linPart (q h : Fin 2) (w : Fin 2) : FVec Ideal S8x128 .f32 :=
  ![hiOf (linVal x0 c q h), subf (linVal x0 c q h) (hiOf (linVal x0 c q h))] w

theorem linPiece_apply (q h w u : Fin 2) (s : Fin 8) (l : Fin 128) :
    linPiece x0 c q h (ix3 (0 : Fin 1) (⟨8 * (2 * w.val + u.val) + s.val, by omega⟩ : Fin 32) l) = inGroup u (linPart x0 c q h w) (ix2 s l) := by
  refine (lift32 _ _ l).trans ((stack4_apply ![inFirst (hiOf (linVal x0 c q h)), inSecond (hiOf (linVal x0 c q h)),
    inFirst (subf (linVal x0 c q h) (hiOf (linVal x0 c q h))), inSecond (subf (linVal x0 c q h) (hiOf (linVal x0 c q h)))] ⟨2 * w.val + u.val, by omega⟩ s l).trans ?_)
  match w, u with
  | ⟨0, _⟩, ⟨0, _⟩ => rfl
  | ⟨0, _⟩, ⟨1, _⟩ => rfl
  | ⟨1, _⟩, ⟨0, _⟩ => rfl
  | ⟨1, _⟩, ⟨1, _⟩ => rfl

theorem cubPiece_apply (q h u : Fin 2) (s : Fin 8) (l : Fin 128) :
    cubPiece x0 c q h (ix3 (0 : Fin 1) (⟨8 * u.val + s.val, by omega⟩ : Fin 16) l) = inGroup u (cubVal x0 c q h) (ix2 s l) :=
  (lift16 _ _ l).trans (stack2_apply (fun u => inGroup u (cubVal x0 c q h)) u s l)

/-- The two parts of a linear coefficient are real and add up to it. -/
theorem linPart_apply (q h : Fin 2) (f : Fin 4) (r : Fin 32) : ∃ y : ℝ,
    linPart x0 c q h 0 (ix2 (row t) (laneAt f r)) = (y : EReal) ∧
    linPart x0 c q h 1 (ix2 (row t) (laneAt f r)) = ((Cert.Mirror.linC (ints x0 c t (nibLane q h r)) f * linQ f - y : ℝ) : EReal) := by
  have hv := linVal_apply x0 c t q h f r
  obtain ⟨y, hy⟩ := hiOf_real _ _ _ hv
  refine ⟨y, hy, ?_⟩
  show linVal x0 c q h (ix2 (row t) (laneAt f r)) - hiOf (linVal x0 c q h) (ix2 (row t) (laneAt f r)) = _
  rw [hv, hy, ← EReal.coe_sub]

end Cert.KernelIdeal.Hand

end
-- ==== Proof.GroupEq.lean ====
/-
  What one group adds to an element of the product: the two ways of writing it agree on all extended reals.
-/
module

public import proofs.«01_k».proof.Proof.Walsh

@[expose] public section

set_option maxRecDepth 16384

namespace Cert.Mirror

open Idealize.ShloMosaic

theorem coe_sub_top (y : ℝ) : (y : EReal) - ⊤ = ⊥ := rfl

theorem group_real (ws wz : EReal) (s a z : ℝ) (hs : 0 < s) :
    ws * ((((a + 3 * z) * (1 / 128) : ℝ) : EReal) * ((s : EReal) * ((64 : ℝ) : EReal)) - wz * ((s : EReal) * (z : EReal)))
      = (ws * (((1 / 2 : ℝ) : EReal) * (s : EReal))) * ((a : EReal) + (((3 : ℝ) : EReal) - ((2 : ℝ) : EReal) * wz) * (z : EReal)) := by
  rw [mul_assoc ws]
  refine congrArg (ws * ·) ?_
  rw [← EReal.coe_mul, ← EReal.coe_mul, ← EReal.coe_mul, ← EReal.coe_mul]
  rcases eq_or_ne z 0 with hz | hz
  · subst hz
    simp only [mul_zero, EReal.coe_zero, sub_zero, add_zero]
    rw [← EReal.coe_mul]
    congr 1
    ring
  have h2 : (0 : ℝ) < 1 / 2 * s := by positivity
  have n2 : (0 : ℝ) < 2 := by norm_num
  induction wz with
  | coe w =>
    rw [← EReal.coe_mul, ← EReal.coe_sub, ← EReal.coe_mul, ← EReal.coe_sub, ← EReal.coe_mul, ← EReal.coe_add, ← EReal.coe_mul]
    congr 1
    ring
  | top =>
    rw [EReal.coe_mul_top_of_pos n2, coe_sub_top]
    rcases lt_or_gt_of_ne hz with h | h
    · rw [EReal.top_mul_coe_of_neg (mul_neg_of_pos_of_neg hs h), EReal.bot_mul_coe_of_neg h, EReal.coe_sub_bot, EReal.coe_add_top, EReal.coe_mul_top_of_pos h2]
    · rw [EReal.top_mul_coe_of_pos (mul_pos hs h), EReal.bot_mul_coe_of_pos h, coe_sub_top, EReal.add_bot, EReal.coe_mul_bot_of_pos h2]
  | bot =>
    rw [EReal.coe_mul_bot_of_pos n2, EReal.coe_sub_bot]
    rcases lt_or_gt_of_ne hz with h | h
    · rw [EReal.bot_mul_coe_of_neg (mul_neg_of_pos_of_neg hs h), EReal.top_mul_coe_of_neg h, coe_sub_top, EReal.add_bot, EReal.coe_mul_bot_of_pos h2]
    · rw [EReal.bot_mul_coe_of_pos (mul_pos hs h), EReal.top_mul_coe_of_pos h, EReal.coe_sub_bot, EReal.coe_add_top, EReal.coe_mul_top_of_pos h2]

/-- The nibble sums of a group, both planes at their weights, less three times the codes of entry 0. -/
theorem group_sum (X : Acts) (P : Planes) (t : Fin 5) (n : Fin 32768) (g : Fin 48) :
    ∑ r : Fin 16, ∑ h : Fin 2, (look (codeInt X t (fourOf (byteOf g r) h)) ((![lowNib (P 0 n (byteOf g r)), highNib (P 0 n (byteOf g r))] : Fin 2 → Fin 16) h)
        + 2 * look (codeInt X t (fourOf (byteOf g r) h)) ((![lowNib (P 1 n (byteOf g r)), highNib (P 1 n (byteOf g r))] : Fin 2 → Fin 16) h)
        - 3 * codeInt X t (fourOf (byteOf g r) h) 0)
      = accInt X P t n g + 3 * zeroInt X t g := by
  have hz : ∑ s : Fin 32, codeInt X t (quad g s) 0 = ∑ r : Fin 16, ∑ h : Fin 2, codeInt X t (fourOf (byteOf g r) h) 0 := by
    rw [← (finProdFinEquiv (m := 16) (n := 2)).sum_comp, Fintype.sum_prod_type]
    refine Finset.sum_congr rfl fun r _ => Finset.sum_congr rfl fun h _ => ?_
    refine congrArg (fun l => codeInt X t l 0) (Fin.ext ?_)
    show 32 * g.val + (h.val + 2 * r.val) = 2 * (16 * g.val + r.val) + h.val
    omega
  rw [zeroInt, hz, accInt, Fin.sum_univ_two]
  simp only [byteSum, Fin.sum_univ_two, Finset.sum_add_distrib, Finset.sum_sub_distrib, ← Finset.mul_sum]
  simp only [Matrix.cons_val_zero, Matrix.cons_val_one]
  norm_num
  ring

theorem scale_cases (X : Acts) (t : Fin 5) (g : Fin 48) : scale X t g = ⊤ ∨ ∃ s : ℝ, 0 < s ∧ scale X t g = (s : EReal) := by
  have h := scale_pos X t g
  revert h
  generalize scale X t g = y
  intro h
  induction y with
  | bot => exact absurd h (by simp)
  | top => exact Or.inl rfl
  | coe s => exact Or.inr ⟨s, by exact_mod_cast h, rfl⟩

/-- What one group adds. -/
theorem group_eq (X : Acts) (P : Planes) (ws wz : EReal) (t : Fin 5) (n : Fin 32768) (g : Fin 48) :
    ws * (((((accInt X P t n g : ℝ) + 3 * (zeroInt X t g : ℝ)) * (1 / 128) : ℝ) : EReal) * (scale X t g * ((64 : ℝ) : EReal)) - wz * (scale X t g * ((zeroInt X t g : ℝ) : EReal)))
      = (ws * (((1 / 2 : ℝ) : EReal) * scale X t g)) * (((accInt X P t n g : ℝ) : EReal) + (((3 : ℝ) : EReal) - ((2 : ℝ) : EReal) * wz) * ((zeroInt X t g : ℝ) : EReal)) := by
  rcases scale_cases X t g with h | ⟨s, hs, h⟩
  · have hc : ∀ l, groupOf l = g → ∀ e, codeInt X t l e = 0 := fun l hl e => code_of_top X t l e (by rw [hl, h])
    have hg : ∀ r h, groupOf (fourOf (byteOf g r) h) = g := fun r h => Fin.ext (by simp only [groupOf, fourOf, byteOf]; omega)
    have hl : ∀ r h k, look (codeInt X t (fourOf (byteOf g r) h)) k = 0 := fun r h k => by
      unfold look
      split_ifs
      · exact hc _ (hg r h) _
      · rw [hc _ (hg r h) _, neg_zero]
    have ha : accInt X P t n g = 0 := by
      unfold accInt byteSum
      simp only [hl, add_zero, Finset.sum_const_zero, zero_mul]
    have hz : zeroInt X t g = 0 := by
      unfold zeroInt
      simp only [fun r => hc _ (groupOf_quad g r) 0, Finset.sum_const_zero, neg_zero]
    rw [ha, hz]
    simp
  · rw [h]
    exact group_real ws wz s _ _ hs

end Cert.Mirror
-- ==== Proof.Dot.lean ====
/-
  The dot sum of one group: the two parts of the linear coefficients and the cubic ones, times the features, are
  the group's integer sums over 128.
-/
module

public import proofs.«01_k».proof.Proof.Feat
public import proofs.«01_k».proof.Proof.Coef
public import proofs.«01_k».proof.Proof.GroupEq

@[expose] public section

set_option maxRecDepth 16384

noncomputable section

namespace Cert.KernelIdeal.Hand

open Cert.KernelIdeal Cert.KernelIdeal.Gen
open Idealize.ShloMosaic Idealize.ShloMosaic.TcCoe
open Idealize.ShloMosaic.View (ld)

theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem sum256 (F : Fin 256 → EReal) : ∑ k, F k = ∑ h : Fin 2, ∑ f : Fin 4, ∑ r : Fin 32, F (pieceRow (pieceOf h f) r) := by
  rw [← (finProdFinEquiv (m := 8) (n := 32)).sum_comp, Fintype.sum_prod_type, ← (finProdFinEquiv (m := 2) (n := 4)).sum_comp, Fintype.sum_prod_type]
  refine Finset.sum_congr rfl fun h _ => Finset.sum_congr rfl fun f _ => Finset.sum_congr rfl fun r _ => congrArg F (Fin.ext ?_)
  show r.val + 32 * (f.val + 4 * h.val) = 32 * (4 * h.val + f.val) + r.val
  omega

theorem dotLin_apply (l : Vec Ideal S1x32x256 .bf16) (w : FVec Ideal S256x1024 .fp8e4m3) (r : Fin 32) (n : Fin 1024) :
    dotLin l w (ix2 r n) = ∑ k : Fin 256, l (ix3 (0 : Fin 1) r k) * w (ix2 k n) := by
  unfold dotLin
  pointwise

theorem dotCub_apply (l : Vec Ideal S1x16x256 .bf16) (w : FVec Ideal S256x1024 .fp8e4m3) (r : Fin 16) (n : Fin 1024) :
    dotCub l w (ix2 r n) = ∑ k : Fin 256, l (ix3 (0 : Fin 1) r k) * w (ix2 k n) := by
  unfold dotCub
  pointwise

theorem ldLin (s : Vec Ideal S24x32x256 .bf16) (p : Fin 24) (r : Fin 32) (k : Fin 256) :
    (ld s (Rect.unit (s := S24x32x256) ![p.val, 0, 0] S1x32x256.size (inbLin p)) : Vec Ideal S1x32x256 .bf16) (ix3 (0 : Fin 1) r k) = s (ix3 p r k) := by
  pointwise
theorem ldCub (s : Vec Ideal S24x16x256 .bf16) (p : Fin 24) (r : Fin 16) (k : Fin 256) :
    (ld s (Rect.unit (s := S24x16x256) ![p.val, 0, 0] S1x16x256.size (inbCub p)) : Vec Ideal S1x16x256 .bf16) (ix3 (0 : Fin 1) r k) = s (ix3 p r k) := by
  pointwise

/-- The chunk of a pair. -/
def chunk (p : Fin 24) : Fin 12 := ⟨p.val / 2, by omega⟩
/-- The pair's number within its chunk. -/
def inChunk (p : Fin 24) : Fin 2 := ⟨p.val % 2, Nat.mod_lt _ (by decide)⟩

section
variable (x0 : Vec Ideal S5x6144 .bf16) (x1 : Vec Ideal S2x1024x768 .i8) (t : Fin 5) (p : Fin 24) (n : Fin 1024)

theorem linTab_apply (w u h : Fin 2) (f : Fin 4) (r : Fin 32) :
    linTab x0 (ix3 p (⟨8 * (2 * w.val + u.val) + (row t).val, by have := (row t).isLt; omega⟩ : Fin 32) (pieceRow (pieceOf h f) r))
      = if r.val / 16 = u.val then linPart x0 (chunk p) (inChunk p) h w (ix2 (row t) (laneAt f r)) else 0 := by
  rw [← inGroup_apply, ← linPiece_apply]
  have e1 : (⟨(32 * (4 * h.val + f.val) + r.val) / 128, by omega⟩ : Fin 2) = h := Fin.ext (by show (32 * (4 * h.val + f.val) + r.val) / 128 = h.val; omega)
  have e2 : (⟨(32 * (4 * h.val + f.val) + r.val) % 128, by omega⟩ : Fin 128) = laneAt f r := Fin.ext (by show (32 * (4 * h.val + f.val) + r.val) % 128 = 32 * f.val + r.val; omega)
  exact congrArg₂ (fun (a : Fin 2) (b : Fin 128) => linPiece x0 (chunk p) (inChunk p) a (ix3 (0 : Fin 1)
    (⟨8 * (2 * w.val + u.val) + (row t).val, by have := (row t).isLt; omega⟩ : Fin 32) b)) e1 e2

theorem cubTab_apply (u h : Fin 2) (f : Fin 4) (r : Fin 32) :
    cubTab x0 (ix3 p (⟨8 * u.val + (row t).val, by have := (row t).isLt; omega⟩ : Fin 16) (pieceRow (pieceOf h f) r))
      = if r.val / 16 = u.val then cubVal x0 (chunk p) (inChunk p) h (ix2 (row t) (laneAt f r)) else 0 := by
  rw [← inGroup_apply, ← cubPiece_apply]
  have e1 : (⟨(32 * (4 * h.val + f.val) + r.val) / 128, by omega⟩ : Fin 2) = h := Fin.ext (by show (32 * (4 * h.val + f.val) + r.val) / 128 = h.val; omega)
  have e2 : (⟨(32 * (4 * h.val + f.val) + r.val) % 128, by omega⟩ : Fin 128) = laneAt f r := Fin.ext (by show (32 * (4 * h.val + f.val) + r.val) % 128 = 32 * f.val + r.val; omega)
  exact congrArg₂ (fun (a : Fin 2) (b : Fin 128) => cubPiece x0 (chunk p) (inChunk p) a (ix3 (0 : Fin 1)
    (⟨8 * u.val + (row t).val, by have := (row t).isLt; omega⟩ : Fin 16) b)) e1 e2

/-- A lane's integer codes. -/
def cs (h : Fin 2) (r : Fin 32) : Fin 8 → ℤ := fun e => Cert.Mirror.codeInt (actsOf x0) t (Cert.Mirror.fourOf (pairByte p r) h) e

theorem ints_eq (h : Fin 2) (r : Fin 32) : ints x0 (chunk p) t (nibLane (inChunk p) h r) = cs x0 t p h r := by
  funext e
  refine congrArg (fun l => Cert.Mirror.codeInt (actsOf x0) t l e) (Fin.ext ?_)
  show 128 * (p.val / 2) + (64 * (p.val % 2) + 2 * r.val + h.val) = 2 * (32 * p.val + r.val) + h.val
  omega

/-- A lane's share, in reals. -/
def share (h : Fin 2) (f : Fin 4) (r : Fin 32) : ℝ :=
  ((Cert.Mirror.linC (cs x0 t p h r) f * (Cert.Mirror.feature (Cert.Mirror.linM f) (nibAt x1 p h r n 0) (nibAt x1 p h r n 1) : ℤ)
    + Cert.Mirror.cubC (cs x0 t p h r) f * (Cert.Mirror.feature (Cert.Mirror.cubM f) (nibAt x1 p h r n 0) (nibAt x1 p h r n 1) : ℤ) : ℤ) : ℝ) * (1 / 512)

theorem linQ_eq (f : Fin 4) : linQ f * 2 ^ Cert.Mirror.linO f = 1 := by
  fin_cases f <;> norm_num [linQ, Cert.Mirror.linO]
theorem cubQ_eq (f : Fin 4) : cubQ f * 2 ^ Cert.Mirror.cubO f = 1 := by
  fin_cases f <;> norm_num [cubQ, Cert.Mirror.cubO]

theorem share_eq (h : Fin 2) (f : Fin 4) (r : Fin 32) :
    linPart x0 (chunk p) (inChunk p) h 0 (ix2 (row t) (laneAt f r)) * linFeat (F := Ideal) (pairEven (F := Ideal) x1 p) (pairOdd (F := Ideal) x1 p) (ix2 (pieceRow (pieceOf h f) r) n)
      + linPart x0 (chunk p) (inChunk p) h 1 (ix2 (row t) (laneAt f r)) * linFeat (F := Ideal) (pairEven (F := Ideal) x1 p) (pairOdd (F := Ideal) x1 p) (ix2 (pieceRow (pieceOf h f) r) n)
      + cubVal x0 (chunk p) (inChunk p) h (ix2 (row t) (laneAt f r)) * cubFeat (F := Ideal) (pairEven (F := Ideal) x1 p) (pairOdd (F := Ideal) x1 p) (ix2 (pieceRow (pieceOf h f) r) n)
      = (share x0 x1 t p n h f r : EReal) := by
  obtain ⟨y, h0, h1⟩ := linPart_apply x0 (chunk p) t (inChunk p) h f r
  rw [h0, h1, cubVal_apply, pairLinFeat_apply, pairCubFeat_apply, ints_eq]
  unfold share
  generalize (Cert.Mirror.feature (Cert.Mirror.linM f) (nibAt x1 p h r n 0) (nibAt x1 p h r n 1)) = a
  generalize (Cert.Mirror.feature (Cert.Mirror.cubM f) (nibAt x1 p h r n 0) (nibAt x1 p h r n 1)) = b
  generalize Cert.Mirror.linC (cs x0 t p h r) f = m
  generalize Cert.Mirror.cubC (cs x0 t p h r) f = k
  rw [← EReal.coe_mul, ← EReal.coe_mul, ← EReal.coe_mul, ← EReal.coe_add, ← EReal.coe_add]
  refine congrArg (fun y : ℝ => (y : EReal)) ?_
  have hl := linQ_eq f
  have hc := cubQ_eq f
  push_cast
  linear_combination (m * a * (1 / 512) : ℝ) * hl + (k * b * (1 / 512) : ℝ) * hc

/-- The dot sum of a pair's group `u`. -/
def dotOf (u : Fin 2) : FVec Ideal S8x1024 .f32 :=
  ![aFirst (pairLin x1 (linTab x0) p) (pairCub x1 (cubTab x0) p), aSecond (pairLin x1 (linTab x0) p) (pairCub x1 (cubTab x0) p)] u

theorem dotOf_rows (u : Fin 2) (s : Fin 8) : dotOf x0 x1 p u (ix2 s n) =
    pairLin x1 (linTab x0) p (ix2 (⟨8 * (2 * (0 : Fin 2).val + u.val) + s.val, by have : (0 : Fin 2).val = 0 := rfl; omega⟩ : Fin 32) n)
      + pairLin x1 (linTab x0) p (ix2 (⟨8 * (2 * (1 : Fin 2).val + u.val) + s.val, by have : (1 : Fin 2).val = 1 := rfl; omega⟩ : Fin 32) n)
      + pairCub x1 (cubTab x0) p (ix2 (⟨8 * u.val + s.val, by omega⟩ : Fin 16) n) := by
  match u with
  | ⟨0, _⟩ =>
    show aFirst (pairLin x1 (linTab x0) p) (pairCub x1 (cubTab x0) p) (ix2 s n) = _
    generalize pairLin x1 (linTab x0) p = a
    generalize pairCub x1 (cubTab x0) p = b
    pointwise [aFirst]
  | ⟨1, _⟩ =>
    show aSecond (pairLin x1 (linTab x0) p) (pairCub x1 (cubTab x0) p) (ix2 s n) = _
    generalize pairLin x1 (linTab x0) p = a
    generalize pairCub x1 (cubTab x0) p = b
    pointwise [aSecond]

theorem pairLin_apply (r : Fin 32) : pairLin x1 (linTab x0) p (ix2 r n)
    = ∑ h : Fin 2, ∑ f : Fin 4, ∑ s : Fin 32, linTab x0 (ix3 p r (pieceRow (pieceOf h f) s))
      * linFeat (F := Ideal) (pairEven (F := Ideal) x1 p) (pairOdd (F := Ideal) x1 p) (ix2 (pieceRow (pieceOf h f) s) n) := by
  unfold pairLin
  rw [dotLin_apply, sum256]
  exact Finset.sum_congr rfl fun h _ => Finset.sum_congr rfl fun f _ => Finset.sum_congr rfl fun s _ => congrArg (· * _) (ldLin _ p r _)

theorem pairCub_apply (r : Fin 16) : pairCub x1 (cubTab x0) p (ix2 r n)
    = ∑ h : Fin 2, ∑ f : Fin 4, ∑ s : Fin 32, cubTab x0 (ix3 p r (pieceRow (pieceOf h f) s))
      * cubFeat (F := Ideal) (pairEven (F := Ideal) x1 p) (pairOdd (F := Ideal) x1 p) (ix2 (pieceRow (pieceOf h f) s) n) := by
  unfold pairCub
  rw [dotCub_apply, sum256]
  exact Finset.sum_congr rfl fun h _ => Finset.sum_congr rfl fun f _ => Finset.sum_congr rfl fun s _ => congrArg (· * _) (ldCub _ p r _)

theorem dotOf_shares (u : Fin 2) : dotOf x0 x1 p u (ix2 (row t) n)
    = ((∑ h : Fin 2, ∑ f : Fin 4, ∑ r : Fin 32, if r.val / 16 = u.val then share x0 x1 t p n h f r else 0 : ℝ) : EReal) := by
  rw [dotOf_rows, pairLin_apply, pairLin_apply, pairCub_apply]
  simp only [linTab_apply, cubTab_apply]
  rw [← Finset.sum_add_distrib, ← Finset.sum_add_distrib, ← coe_sum]
  refine Finset.sum_congr rfl fun h _ => ?_
  rw [← Finset.sum_add_distrib, ← Finset.sum_add_distrib, ← coe_sum]
  refine Finset.sum_congr rfl fun f _ => ?_
  rw [← Finset.sum_add_distrib, ← Finset.sum_add_distrib, ← coe_sum]
  refine Finset.sum_congr rfl fun r _ => ?_
  by_cases hr : r.val / 16 = u.val
  · simp only [if_pos hr]
    exact share_eq x0 x1 t p n h f r
  · simp only [if_neg hr, zero_mul, add_zero, EReal.coe_zero]

/-- Group `u` of a pair. -/
def grp (u : Fin 2) : Fin 48 := ⟨2 * p.val + u.val, by omega⟩

/-- Lane `s` of group `u`. -/
def half (u : Fin 2) (s : Fin 16) : Fin 32 := ⟨16 * u.val + s.val, by omega⟩

theorem sum_half (u : Fin 2) (F : Fin 32 → ℝ) : (∑ r : Fin 32, if r.val / 16 = u.val then F r else 0) = ∑ s : Fin 16, F (half u s) := by
  rw [← (finProdFinEquiv (m := 2) (n := 16)).sum_comp, Fintype.sum_prod_type, Finset.sum_eq_single u]
  · refine Finset.sum_congr rfl fun s _ => ?_
    have e : finProdFinEquiv (u, s) = half u s := Fin.ext (by show s.val + 16 * u.val = 16 * u.val + s.val; omega)
    rw [e, if_pos (by show (16 * u.val + s.val) / 16 = u.val; omega)]
  · intro v _ hv
    refine Finset.sum_eq_zero fun s _ => if_neg ?_
    show ¬ (s.val + 16 * v.val) / 16 = u.val
    have : v.val ≠ u.val := fun h => hv (Fin.ext h)
    omega
  · intro h
    exact absurd (Finset.mem_univ u) h

variable (P : Cert.Mirror.Planes) (N : Fin 32768) (hP : ∀ (b : Fin 2) (k : Fin 768), x1 (ix3 b n k) = P b N k)
include hP

theorem dotOf_apply (u : Fin 2) : dotOf x0 x1 p u (ix2 (row t) n)
    = ((((Cert.Mirror.accInt (actsOf x0) P t N (grp p u) : ℝ) + 3 * (Cert.Mirror.zeroInt (actsOf x0) t (grp p u) : ℝ)) * (1 / 128) : ℝ) : EReal) := by
  rw [dotOf_shares]
  refine congrArg (fun y : ℝ => (y : EReal)) ?_
  have hb : ∀ s : Fin 16, pairByte p (half u s) = Cert.Mirror.byteOf (grp p u) s := fun s => Fin.ext (by
    show 32 * p.val + (16 * u.val + s.val) = 16 * (2 * p.val + u.val) + s.val; omega)
  have hs : ∀ (s : Fin 16) (h : Fin 2), ∑ f : Fin 4, share x0 x1 t p n h f (half u s)
      = ((4 * (Cert.Mirror.look (Cert.Mirror.codeInt (actsOf x0) t (Cert.Mirror.fourOf (Cert.Mirror.byteOf (grp p u) s) h)) ((![Cert.Mirror.lowNib (P 0 N (Cert.Mirror.byteOf (grp p u) s)), Cert.Mirror.highNib (P 0 N (Cert.Mirror.byteOf (grp p u) s))] : Fin 2 → Fin 16) h)
        + 2 * Cert.Mirror.look (Cert.Mirror.codeInt (actsOf x0) t (Cert.Mirror.fourOf (Cert.Mirror.byteOf (grp p u) s) h)) ((![Cert.Mirror.lowNib (P 1 N (Cert.Mirror.byteOf (grp p u) s)), Cert.Mirror.highNib (P 1 N (Cert.Mirror.byteOf (grp p u) s))] : Fin 2 → Fin 16) h)
        - 3 * Cert.Mirror.codeInt (actsOf x0) t (Cert.Mirror.fourOf (Cert.Mirror.byteOf (grp p u) s) h) 0) : ℤ) : ℝ) * (1 / 512) := by
    intro s h
    have n0 : nibAt x1 p h (half u s) n 0 = (![Cert.Mirror.lowNib (P 0 N (Cert.Mirror.byteOf (grp p u) s)), Cert.Mirror.highNib (P 0 N (Cert.Mirror.byteOf (grp p u) s))] : Fin 2 → Fin 16) h := by
      unfold nibAt; rw [hP, hb]; rfl
    have n1 : nibAt x1 p h (half u s) n 1 = (![Cert.Mirror.lowNib (P 1 N (Cert.Mirror.byteOf (grp p u) s)), Cert.Mirror.highNib (P 1 N (Cert.Mirror.byteOf (grp p u) s))] : Fin 2 → Fin 16) h := by
      unfold nibAt; rw [hP, hb]; rfl
    have hc : cs x0 t p h (half u s) = Cert.Mirror.codeInt (actsOf x0) t (Cert.Mirror.fourOf (Cert.Mirror.byteOf (grp p u) s) h) := by
      unfold cs; rw [hb]
    unfold share
    rw [← Finset.sum_mul, n0, n1, hc, Cert.Mirror.look_pair, ← Finset.sum_add_distrib]
    push_cast
    rfl
  have hg := Cert.Mirror.group_sum (actsOf x0) P t N (grp p u)
  have e : ∑ h : Fin 2, ∑ f : Fin 4, ∑ r : Fin 32, (if r.val / 16 = u.val then share x0 x1 t p n h f r else 0)
      = ∑ s : Fin 16, ∑ h : Fin 2, ∑ f : Fin 4, share x0 x1 t p n h f (half u s) := by
    simp only [sum_half]
    rw [Finset.sum_comm]
    conv_rhs => rw [Finset.sum_comm]
    rw [Finset.sum_comm]
    exact Finset.sum_congr rfl fun h _ => Finset.sum_comm
  rw [e]
  simp only [hs]
  simp only [← Finset.sum_mul, ← Int.cast_sum, ← Finset.mul_sum]
  rw [hg]
  push_cast
  ring

end

end Cert.KernelIdeal.Hand

end
-- ==== Proof.YValue.lean ====
/-
  The block of the product at an index: the sum of what the 48 groups add.
-/
module

public import proofs.«01_k».proof.Proof.Dot

@[expose] public section

set_option maxRecDepth 16384

noncomputable section

namespace Cert.KernelIdeal.Hand

open Cert.KernelIdeal Cert.KernelIdeal.Gen
open Idealize.ShloMosaic Idealize.ShloMosaic.TcCoe
open Idealize.ShloMosaic.View (ld)

theorem rowAll_apply (v : Vec Ideal S1x1024 .f32) (s : Fin 8) (n : Fin 1024) : rowAll v (ix2 s n) = v (ix2 (0 : Fin 1) n) := by
  pointwise [rowAll]

theorem rep8_apply (v : Vec Ideal S1x8x128 .f32) (s : Fin 8) (n : Fin 1024) :
    rep8 v (ix2 s n) = v (ix3 (0 : Fin 1) s (⟨n.val % 128, Nat.mod_lt _ (by decide)⟩ : Fin 128)) := by
  refine (concatenate_ofFn_apply (t := S8x1024) (s₁ := S8x128) 1 (fun _ : Fin 8 => (shapeCast S8x128 v shapeCasts_S1x8x128_S8x128 : FVec Ideal S8x128 .f32))
    concatenates_S8x128_S8x128_S8x128_S8x128_S8x128_S8x128_S8x128_S8x128_S8x1024_d1 rfl 128 rfl
    (ix2 s n) ⟨n.val / 128, by omega⟩ rfl (ix2 s (⟨n.val % 128, Nat.mod_lt _ (by decide)⟩ : Fin 128)) rfl ?_).trans ?_
  · intro b hb
    match b with
    | ⟨0, _⟩ => rfl
    | ⟨1, _⟩ => exact absurd rfl hb
  · pointwise

theorem wRow_apply (x : Vec Ideal S48x1024 .f32) (g : Fin 48) (n : Fin 1024) : wRow x g (ix2 (0 : Fin 1) n) = x (ix2 g n) := by
  pointwise [wRow]

theorem grpRow_apply (s : Vec Ideal S48x8x128 .f32) (g : Fin 48) (r : Fin 8) (l : Fin 128) : grpRow s g (ix3 (0 : Fin 1) r l) = s (ix3 g r l) := by
  pointwise [grpRow]

theorem addGroup_apply (acc a : FVec Ideal S8x1024 .f32) (s10 s11 : Vec Ideal S48x8x128 .f32) (x2 x3 : Vec Ideal S48x1024 .f32) (g : Fin 48) (s : Fin 8) (n : Fin 1024) :
    addGroup acc a (grpRow s10 g) (grpRow s11 g) (wRow x2 g) (wRow x3 g) (ix2 s n)
      = (acc (ix2 s n) : EReal) + (x2 (ix2 g n) : EReal) * ((a (ix2 s n) : EReal) * s10 (ix3 g s (⟨n.val % 128, Nat.mod_lt _ (by decide)⟩ : Fin 128))
        - (x3 (ix2 g n) : EReal) * s11 (ix3 g s (⟨n.val % 128, Nat.mod_lt _ (by decide)⟩ : Fin 128))) := by
  have e : addGroup acc a (grpRow s10 g) (grpRow s11 g) (wRow x2 g) (wRow x3 g) (ix2 s n)
      = (acc (ix2 s n) : EReal) + (rowAll (wRow x2 g) (ix2 s n) : EReal) * ((a (ix2 s n) : EReal) * rep8 (grpRow s10 g) (ix2 s n)
        - (rowAll (wRow x3 g) (ix2 s n) : EReal) * rep8 (grpRow s11 g) (ix2 s n)) := rfl
  rw [e, rowAll_apply, rowAll_apply, rep8_apply, rep8_apply, wRow_apply, wRow_apply, grpRow_apply, grpRow_apply]

section
variable (x0 : Vec Ideal S5x6144 .bf16) (t : Fin 5)

theorem groupNo_eq (g : Fin 48) : groupNo ⟨g.val / 4, by omega⟩ ⟨g.val % 4, by omega⟩ = g :=
  Fin.ext (by show 4 * (g.val / 4) + g.val % 4 = g.val; omega)

theorem lift8 (v : FVec Ideal S8x128 .f32) (s : Fin 8) (l : Fin 128) :
    (shapeCast S1x8x128 v shapeCasts_S8x128_S1x8x128 : FVec Ideal S1x8x128 .f32) (ix3 (0 : Fin 1) s l) = v (ix2 s l) := by
  pointwise

theorem lsTab_apply (g : Fin 48) (l : Fin 128) : lsTab x0 (ix3 g (row t) l) = Cert.Mirror.scale (actsOf x0) t g * ((64 : ℝ) : EReal) := by
  have e : lsPiece x0 ⟨g.val / 4, by omega⟩ ⟨g.val % 4, by omega⟩ (ix3 (0 : Fin 1) (row t) l)
      = grpScale x0 ⟨g.val / 4, by omega⟩ ⟨g.val % 4, by omega⟩ (ix2 (row t) l) * lanes (F := Ideal) 0x42800000#32 (ix2 (row t) l) := lift8 _ _ _
  refine Eq.trans e ?_
  rw [grpScale_apply, groupNo_eq, lanes_64]

theorem zeros_eq (g : Fin 48) : (0 : EReal) - ∑ s : Fin 32, Cert.Mirror.code (actsOf x0) t (Cert.Mirror.quad g s) 0
    = ((Cert.Mirror.zeroInt (actsOf x0) t g : ℝ) : EReal) := by
  have h : ∀ s, Cert.Mirror.code (actsOf x0) t (Cert.Mirror.quad g s) 0 = ((Cert.Mirror.codeInt (actsOf x0) t (Cert.Mirror.quad g s) 0 : ℝ) : EReal) :=
    fun s => (Cert.Mirror.code_eq _ _ _ _).2
  simp only [h]
  rw [coe_sum, zero_sub, ← EReal.coe_neg, Cert.Mirror.zeroInt]
  push_cast
  rfl

theorem zTab_apply (g : Fin 48) (l : Fin 128) : zTab x0 (ix3 g (row t) l) = Cert.Mirror.scale (actsOf x0) t g * ((Cert.Mirror.zeroInt (actsOf x0) t g : ℝ) : EReal) := by
  have e : zPiece x0 ⟨g.val / 4, by omega⟩ ⟨g.val % 4, by omega⟩ (ix3 (0 : Fin 1) (row t) l)
      = grpScale x0 ⟨g.val / 4, by omega⟩ ⟨g.val % 4, by omega⟩ (ix2 (row t) l)
        * pick (zsumOf x0 ⟨g.val / 4, by omega⟩) (ilanes (32 * (⟨g.val % 4, by omega⟩ : Fin 4).val)) (ix2 (row t) l) := lift8 _ _ _
  refine Eq.trans e ?_
  rw [grpScale_apply, grpZ_apply, groupNo_eq, zeros_eq]

variable (x1 : Vec Ideal S2x1024x768 .i8) (x2 x3 : Vec Ideal S48x1024 .f32) (n : Fin 1024)
  (P : Cert.Mirror.Planes) (ws wz : Cert.Mirror.Weights) (N : Fin 32768)

/-- What one group adds to an element. -/
def addend (g : Fin 48) : EReal := (ws N g * (((1 / 2 : ℝ) : EReal) * Cert.Mirror.scale (actsOf x0) t g))
    * (((Cert.Mirror.accInt (actsOf x0) P t N g : ℝ) : EReal) + (((3 : ℝ) : EReal) - ((2 : ℝ) : EReal) * wz N g) * ((Cert.Mirror.zeroInt (actsOf x0) t g : ℝ) : EReal))

/-- The same, at a number that may be out of range. -/
def addendAt (k : ℕ) : EReal := if h : k < 48 then addend x0 t P ws wz N ⟨k, h⟩ else 0

theorem addendAt_grp (p : Fin 24) (u : Fin 2) : addendAt x0 t P ws wz N (2 * p.val + u.val) = addend x0 t P ws wz N (grp p u) :=
  dif_pos (by omega)

theorem sum_pairs (T : ℕ → EReal) (m : ℕ) : ∑ p ∈ Finset.range m, (T (2 * p) + T (2 * p + 1)) = ∑ k ∈ Finset.range (2 * m), T k := by
  induction m with
  | zero => rfl
  | succ m ih => rw [Finset.sum_range_succ, ih, show 2 * (m + 1) = 2 * m + 1 + 1 by omega, Finset.sum_range_succ, Finset.sum_range_succ, add_assoc]

variable (hP : ∀ (b : Fin 2) (k : Fin 768), x1 (ix3 b n k) = P b N k) (h2 : ∀ g : Fin 48, x2 (ix2 g n) = ws N g) (h3 : ∀ g : Fin 48, x3 (ix2 g n) = wz N g)
include hP h2 h3

theorem group_apply (acc : FVec Ideal S8x1024 .f32) (p : Fin 24) (u : Fin 2) :
    addGroup acc (dotOf x0 x1 p u) (grpRow (lsTab x0) (grp p u)) (grpRow (zTab x0) (grp p u)) (wRow x2 (grp p u)) (wRow x3 (grp p u)) (ix2 (row t) n)
      = (acc (ix2 (row t) n) : EReal) + addendAt x0 t P ws wz N (2 * p.val + u.val) := by
  rw [addGroup_apply, dotOf_apply x0 x1 t p n P N hP, lsTab_apply, zTab_apply, h2, h3, Cert.Mirror.group_eq, addendAt_grp]
  rfl

theorem accOf_apply (m : ℕ) (hm : m ≤ 24) :
    accOf x1 x2 x3 (linTab x0) (cubTab x0) (lsTab x0) (zTab x0) m hm (ix2 (row t) n)
      = ∑ p ∈ Finset.range m, (addendAt x0 t P ws wz N (2 * p) + addendAt x0 t P ws wz N (2 * p + 1)) := by
  induction m with
  | zero => exact Ideal.ofBits_zero_f32
  | succ m ih =>
    rw [Finset.sum_range_succ, ← ih (Nat.le_of_succ_le hm), ← add_assoc]
    have g0 := group_apply x0 t x1 x2 x3 n P ws wz N hP h2 h3 (accOf x1 x2 x3 (linTab x0) (cubTab x0) (lsTab x0) (zTab x0) m (Nat.le_of_succ_le hm)) ⟨m, hm⟩ 0
    refine Eq.trans (group_apply x0 t x1 x2 x3 n P ws wz N hP h2 h3 _ ⟨m, hm⟩ 1) ?_
    exact congrArg (· + addendAt x0 t P ws wz N (2 * m + 1)) g0

theorem yBlock_apply : yBlock x1 x2 x3 (linTab x0) (cubTab x0) (lsTab x0) (zTab x0) (ix2 t n)
    = Cert.Mirror.result (actsOf x0) P ws wz t N := by
  have e : yBlock x1 x2 x3 (linTab x0) (cubTab x0) (lsTab x0) (zTab x0) (ix2 t n)
      = accOf x1 x2 x3 (linTab x0) (cubTab x0) (lsTab x0) (zTab x0) 24 le_rfl (ix2 (row t) n) := by
    unfold yBlock
    generalize accOf x1 x2 x3 (linTab x0) (cubTab x0) (lsTab x0) (zTab x0) 24 le_rfl = a
    pointwise
    rfl
  rw [e, accOf_apply x0 t x1 x2 x3 n P ws wz N hP h2 h3, sum_pairs, Finset.sum_range]
  refine Finset.sum_congr rfl fun g _ => ?_
  exact dif_pos g.isLt

end

end Cert.KernelIdeal.Hand

end
-- ==== Proof.RefValue.lean ====
/-
  The reference's table, scale and codes at an index: the shared mathematics of `Math`.
-/
module

public import proofs.«01_k».proof.Proof.Math
public import proofs.«01_k».proof.Proof.Gen.ReferenceIdeal.Run

@[expose] public section

set_option maxRecDepth 16384

noncomputable section

namespace Cert.ReferenceIdeal.Hand

open Cert.ReferenceIdeal Cert.ReferenceIdeal.Value
open Idealize.ShloMosaic Idealize.ShloMosaic.TcCoe

variable (V0 : Valuation τ sig (Elt Ideal))

/-- The activations as the reference is given them. -/
def acts : Cert.Mirror.Acts := fun t k => V0 (Proc.devRef .tc main_arg0) (ix3 t (0 : Fin 1) k)

theorem v15_apply (e : Fin 8) (i : Fin 4) : res_main_v15 V0 (ix2 e i) = (((bif e.val.testBit i.val then 1 else -1 : ℤ) : ℝ) : EReal) := by
  have h : ∀ (e : Fin 8) (i : Fin 4), (IntOp.subi (IntOp.muli (2#32) (IntOp.andi (IntOp.shrsi .host (BitVec.ofNat 32 e.val) (BitVec.ofNat 32 i.val)) 1#32))
      1#32).toInt = bif e.val.testBit i.val then 1 else -1 := by decide +kernel
  pointwise [res_main_v15]
  exact congrArg (fun n : ℤ => ((n : ℝ) : EReal)) (h e i)

theorem signed_eq (b : Bool) (u a : EReal) : Cert.Mirror.signed b u a = u + a * (((bif b then 1 else -1 : ℤ) : ℝ) : EReal) := by
  cases b
  · simp [Cert.Mirror.signed, sub_eq_add_neg]
  · simp [Cert.Mirror.signed]

/-- Activation number `n` of a token, times a table sign. -/
def term (t : Fin 5) (n : Fin 6144) (e : Fin 8) (i : Fin 4) : EReal := acts V0 t n * res_main_v15 V0 (ix2 e i)

theorem v57_read (t : Fin 5) (g : Fin 48) (k : Fin 256) :
    res_main_v57 V0 (ix3 t g k) =
      term V0 t ⟨(g.val * 32 + k.val / 8) * 4, by omega⟩ ⟨k.val % 8, by omega⟩ 0
        + term V0 t ⟨(g.val * 32 + k.val / 8) * 4 + 1, by omega⟩ ⟨k.val % 8, by omega⟩ 1
        + term V0 t ⟨(g.val * 32 + k.val / 8) * 4 + 2, by omega⟩ ⟨k.val % 8, by omega⟩ 2
        + term V0 t ⟨(g.val * 32 + k.val / 8) * 4 + 3, by omega⟩ ⟨k.val % 8, by omega⟩ 3 := by
  pointwise [res_main_v57, res_main_v1, term, acts]

theorem term_eq (t : Fin 5) (l : Fin 1536) (n : Fin 6144) (e : Fin 8) (i : Fin 4) (h : n.val = l.val * 4 + i.val) :
    term V0 t n e i = Cert.Mirror.act (acts V0) t l i * (((bif e.val.testBit i.val then 1 else -1 : ℤ) : ℝ) : EReal) := by
  unfold term Cert.Mirror.act
  rw [v15_apply]
  congr 3
  apply Fin.ext
  rw [h]
  exact congrArg (· + i.val) (mul_comm _ _)

theorem v57_apply (t : Fin 5) (g : Fin 48) (k : Fin 256) :
    res_main_v57 V0 (ix3 t g k) = Cert.Mirror.entry (acts V0) t ⟨g.val * 32 + k.val / 8, by omega⟩ ⟨k.val % 8, by omega⟩ := by
  rw [v57_read, Cert.Mirror.entry, signed_eq, signed_eq, signed_eq, signed_eq, zero_add,
    term_eq V0 t ⟨g.val * 32 + k.val / 8, by omega⟩ _ _ 0 rfl, term_eq V0 t ⟨g.val * 32 + k.val / 8, by omega⟩ _ _ 1 rfl,
    term_eq V0 t ⟨g.val * 32 + k.val / 8, by omega⟩ _ _ 2 rfl, term_eq V0 t ⟨g.val * 32 + k.val / 8, by omega⟩ _ _ 3 rfl]
  simp only [show (0 : Fin 4).val = 0 from rfl, show (1 : Fin 4).val = 1 from rfl, show (2 : Fin 4).val = 2 from rfl, show (3 : Fin 4).val = 3 from rfl]

theorem drop_v59 (t : Fin 5) (g : Fin 48) (k : Fin 256) : Gen.reducesTo_S5x48x256_S5x48_d2.drop (ix3 t g k) = ix2 t g := by
  funext a
  match a with
  | ⟨0, _⟩ => rfl
  | ⟨1, _⟩ => rfl

theorem v59_apply (t : Fin 5) (g : Fin 48) :
    res_main_v59 V0 (ix2 t g) = Cert.Mirror.groupMax (acts V0) t g := by
  have hb : Ideal.ofBits .f32 4286578688#32 = ⊥ := by simp [Ideal.ofBits, Ideal.ieee]
  have hq : ∀ (r : Fin 32) (e : Fin 8), FloatOps.absf (F := Ideal) (φ := .f32) (res_main_v57 V0 (ix3 t g (⟨8 * r.val + e.val, by omega⟩ : Fin 256)))
      = Cert.Mirror.mag (Cert.Mirror.entry (acts V0) t (Cert.Mirror.quad g r) e) := by
    intro r e
    rw [v57_apply]
    have e1 : (⟨g.val * 32 + (8 * r.val + e.val) / 8, by omega⟩ : Fin 1536) = Cert.Mirror.quad g r := by
      apply Fin.ext; simp only [Cert.Mirror.quad]; omega
    have e2 : (⟨(8 * r.val + e.val) % 8, by omega⟩ : Fin 8) = e := by
      apply Fin.ext; show (8 * r.val + e.val) % 8 = e.val; omega
    rw [e1, e2]
    rfl
  pointwise [res_main_v59]
  change @Eq EReal _ _
  apply le_antisymm
  · refine Finset.fold_max_le _ |>.2 ⟨hb ▸ bot_le, fun i hi => ?_⟩
    have hd := (Finset.mem_filter.1 hi).2
    idx_vars i
    rw [drop_v59] at hd
    obtain ⟨rfl, rfl⟩ := (ix2_inj _ _ _ _).1 hd
    obtain ⟨r, e, rfl⟩ : ∃ (r : Fin 32) (e : Fin 8), i2 = (⟨8 * r.val + e.val, by omega⟩ : Fin 256) :=
      ⟨⟨i2.val / 8, by omega⟩, ⟨i2.val % 8, by omega⟩, Fin.ext (by show i2.val = 8 * (i2.val / 8) + i2.val % 8; omega)⟩
    rw [hq r e]
    exact (Finset.le_sup (f := fun e : Fin 8 => Cert.Mirror.mag (Cert.Mirror.entry (acts V0) i0 (Cert.Mirror.quad i1 r) e)) (Finset.mem_univ e)).trans
      (Finset.le_sup (f := fun r : Fin 32 => Cert.Mirror.greatest (acts V0) i0 (Cert.Mirror.quad i1 r)) (Finset.mem_univ r))
  · refine Finset.sup_le fun r _ => Finset.sup_le fun e _ => ?_
    refine Finset.le_fold_max _ |>.2 (.inr ⟨ix3 t g (⟨8 * r.val + e.val, by omega⟩ : Fin 256), ?_, (hq r e).ge⟩)
    exact Finset.mem_filter.2 ⟨Finset.mem_univ _, drop_v59 _ _ _⟩

theorem ofBits_127 : Ideal.ofBits .f32 1123942400#32 = ((127 : ℝ) : EReal) := by
  simp [Ideal.ofBits, Ideal.ieee, -EReal.coe_mul]; norm_num

theorem v64_apply (t : Fin 5) (g : Fin 48) :
    res_main_v64 V0 (ix2 t g) = Cert.Mirror.scale (acts V0) t g := by
  pointwise [res_main_v64]
  rw [v59_apply, ofBits_127, Cert.Mirror.scale]
  congr 1
  exact Ideal.ofBits_one_f32

theorem v72_apply (t : Fin 5) (l : Fin 1536) (e : Fin 8) :
    res_main_v72 V0 (ix3 t l e) = (Ideal.fptosi 32 (Cert.Mirror.code (acts V0) t l e)).setWidth 8 := by
  pointwise [res_main_v72]
  rw [v57_apply, v64_apply]
  have e1 : (⟨l.val / 32 * 32 + (l.val % 32 * 8 + e.val) / 8, by omega⟩ : Fin 1536) = l := by
    apply Fin.ext; show l.val / 32 * 32 + (l.val % 32 * 8 + e.val) / 8 = l.val; omega
  have e2 : (⟨(l.val % 32 * 8 + e.val) % 8, by omega⟩ : Fin 8) = e := by
    apply Fin.ext; show (l.val % 32 * 8 + e.val) % 8 = e.val; omega
  have c1 : FloatOps.sitofp (F := Ideal) .f32 127#32 = ((127 : ℝ) : EReal) := by
    show (((127#32 : BitVec 32).toInt : ℝ) : EReal) = _
    rw [show (127#32 : BitVec 32).toInt = 127 by decide]; norm_num
  have c2 : FloatOps.sitofp (F := Ideal) .f32 4294967169#32 = ((-127 : ℝ) : EReal) := by
    show (((4294967169#32 : BitVec 32).toInt : ℝ) : EReal) = _
    rw [show (4294967169#32 : BitVec 32).toInt = -127 by decide]; norm_num
  rw [e1, e2, c1, c2]
  rfl

end Cert.ReferenceIdeal.Hand

end
-- ==== Proof.RefY.lean ====
/-
  The reference's product at an index: the integer sums of looked-up codes, scaled and added over the groups.
-/
module

public import proofs.«01_k».proof.Proof.Walsh
public import proofs.«01_k».proof.Proof.RefValue

@[expose] public section

set_option maxRecDepth 16384

noncomputable section

namespace Cert.ReferenceIdeal.Hand

open Cert.ReferenceIdeal Cert.ReferenceIdeal.Value Cert.ReferenceIdeal.Gen
open Idealize.ShloMosaic Idealize.ShloMosaic.TcCoe

variable (V0 : Valuation τ sig (Elt Ideal))

/-- The packed planes as the reference is given them. -/
def planes : Cert.Mirror.Planes := fun p n b => V0 (Proc.devRef .tc main_arg1) (ix3 p n b)
/-- The weight scales as the reference is given them. -/
def wScale : Cert.Mirror.Weights := fun n g => V0 (Proc.devRef .tc main_arg2) (ix2 n g)
/-- The weight zeros as the reference is given them. -/
def wZero : Cert.Mirror.Weights := fun n g => V0 (Proc.devRef .tc main_arg3) (ix2 n g)

/-- The signed entries of the two nibbles, added. -/
def vals : IVec S5x2x32768x768 32 :=
  addi (select (broadcastInDim S5x2x32768x768 ![1, 2, 3] bcast_S2x32768x768_S5x2x32768x768_1_2_3 (cmpi .slt (res_main_v77 V0) (broadcastInDim S2x32768x768 ![] bcast_S_S2x32768x768 (constantI S_ 32 8#32)))) (res_main_v127 V0) (negi (res_main_v127 V0)))
    (select (broadcastInDim S5x2x32768x768 ![1, 2, 3] bcast_S2x32768x768_S5x2x32768x768_1_2_3 (cmpi .slt (res_main_v79 V0) (broadcastInDim S2x32768x768 ![] bcast_S_S2x32768x768 (constantI S_ 32 8#32)))) (res_main_v179 V0) (negi (res_main_v179 V0)))

/-- The integer sums of the groups. -/
def accs : IVec S5x32768x48 32 :=
  Host.reduce IntOp.addi (muli (Host.reduce IntOp.addi (shapeCast _ (vals V0) shapeCasts_S5x2x32768x768_S5x2x32768x48x16) (constantI S_ 32 0#32) reducesTo_S5x2x32768x48x16_S5x2x32768x48_d4 h_S_) (broadcastInDim S5x2x32768x48 ![0, 1, 2, 3] bcast_S1x2x1x1_S5x2x32768x48_0_1_2_3 (broadcastInDim S1x2x1x1 ![1, 2, 3] bcast_S2x1x1_S1x2x1x1_1_2_3 (broadcastInDim S2x1x1 ![0] bcast_S2_S2x1x1_0 (Host.shli (broadcastInDim S2 ![] bcast_S_S2 (constantI S_ 32 1#32)) (iotaInDim S2 32 0)))))) (constantI S_ 32 0#32) reducesTo_S5x2x32768x48_S5x32768x48_d1 h_S_

/-- Minus the sums of the codes of entry 0. -/
def zeros : IVec S5x48 32 :=
  negi (Host.reduce IntOp.addi (shapeCast _ (extsi 32 (shapeCast _ (extractStridedSlice S5x1536x1 ![0, 0, 0] (res_main_v72 V0) slices_S5x1536x8_S5x1536x1_0_0_0) shapeCasts_S5x1536x1_S5x1536) natLt_8_32) shapeCasts_S5x1536_S5x48x32) (constantI S_ 32 0#32) reducesTo_S5x48x32_S5x48_d2 h_S_)

/-- The product as the reference leaves it. -/
def product : FVec Ideal S5x32768 .bf16 :=
  truncf .bf16 (Host.reduceAdd (mulf (mulf (broadcastInDim S5x32768x48 ![0, 1, 2] bcast_S1x32768x48_S5x32768x48_0_1_2 (broadcastInDim S1x32768x48 ![1, 2] bcast_S32768x48_S1x32768x48_1_2 (V0 (Proc.devRef .tc main_arg2)))) (broadcastInDim S5x32768x48 ![0, 1, 2] bcast_S5x1x48_S5x32768x48_0_1_2 (broadcastInDim S5x1x48 ![0, 2] bcast_S5x48_S5x1x48_0_2 (mulf (broadcastInDim S5x48 ![] bcast_S_S5x48 (constant S_ .f32 0x3F000000#32)) (res_main_v64 V0)))))
    (addf (sitofp .f32 (accs V0)) (mulf (broadcastInDim S5x32768x48 ![0, 1, 2] bcast_S1x32768x48_S5x32768x48_0_1_2 (broadcastInDim S1x32768x48 ![1, 2] bcast_S32768x48_S1x32768x48_1_2 (subf (broadcastInDim S32768x48 ![] bcast_S_S32768x48 (constant S_ .f32 0x40400000#32)) (mulf (broadcastInDim S32768x48 ![] bcast_S_S32768x48 (constant S_ .f32 0x40000000#32)) (V0 (Proc.devRef .tc main_arg3)))))) (broadcastInDim S5x32768x48 ![0, 1, 2] bcast_S5x1x48_S5x32768x48_0_1_2 (broadcastInDim S5x1x48 ![0, 2] bcast_S5x48_S5x1x48_0_2 (sitofp .f32 (zeros V0))))))) (constant S_ .f32 0x00000000#32) reducesTo_S5x32768x48_S5x32768_d2 h_S_) bitsLt_bf16_f32

theorem fold_ofInt {ι : Type} (s : Finset ι) (f : ι → BitVec 32) (g : ι → ℤ) (h : ∀ i ∈ s, f i = BitVec.ofInt 32 (g i)) :
    s.fold IntOp.addi 0#32 f = BitVec.ofInt 32 (∑ i ∈ s, g i) := by
  classical
  induction s using Finset.induction_on with
  | empty => rfl
  | insert a s ha ih =>
    rw [Finset.fold_insert ha, Finset.sum_insert ha, BitVec.ofInt_add, h a (Finset.mem_insert_self a s),
      ih fun i hi => h i (Finset.mem_insert_of_mem hi)]
    rfl

/-- Eight bits hold a code: cut to them and extended again it is what it was. -/
theorem eight_bits (n : ℤ) (hn : |n| ≤ 127) : ((BitVec.ofInt 32 n).setWidth 8).signExtend 32 = BitVec.ofInt 32 n := by
  have h : ∀ k : Fin 255, ((BitVec.ofInt 32 ((k.val : ℤ) - 127)).setWidth 8).signExtend 32 = BitVec.ofInt 32 ((k.val : ℤ) - 127) := by decide +kernel
  have hb := abs_le.1 hn
  have e : (((n + 127).toNat : ℕ) : ℤ) - 127 = n := by omega
  have := h ⟨(n + 127).toNat, by omega⟩
  rwa [e] at this

theorem v72_int (t : Fin 5) (l : Fin 1536) (e : Fin 8) :
    (res_main_v72 V0 (ix3 t l e)).signExtend 32 = BitVec.ofInt 32 (Cert.Mirror.codeInt (acts V0) t l e) := by
  rw [← eight_bits _ (Cert.Mirror.code_eq (acts V0) t l e).1, v72_apply, Cert.Mirror.codeInt, BitVec.ofInt_toInt]

theorem v81_apply (t : Fin 5) (b : Fin 768) (e : Fin 8) :
    res_main_v81 V0 (ix3 t b e) = BitVec.ofInt 32 (Cert.Mirror.codeInt (acts V0) t (Cert.Mirror.fourOf b 0) e) := by
  rw [← v72_int]
  pointwise [res_main_v81, res_main_v74, Cert.Mirror.fourOf]
  exact congrArg (fun l => (res_main_v72 V0 (ix3 t l e)).signExtend 32) (Fin.ext (mul_comm _ _))

theorem v133_apply (t : Fin 5) (b : Fin 768) (e : Fin 8) :
    res_main_v133 V0 (ix3 t b e) = BitVec.ofInt 32 (Cert.Mirror.codeInt (acts V0) t (Cert.Mirror.fourOf b 1) e) := by
  rw [← v72_int]
  pointwise [res_main_v133, res_main_v74, Cert.Mirror.fourOf]
  exact congrArg (fun l => (res_main_v72 V0 (ix3 t l e)).signExtend 32) (Fin.ext (congrArg (· + 1) (mul_comm _ _)))

theorem v77_apply (p : Fin 2) (n : Fin 32768) (b : Fin 768) :
    res_main_v77 V0 (ix3 p n b) = BitVec.ofNat 32 (Cert.Mirror.lowNib (planes V0 p n b)).val := by
  have h : ∀ k : Fin 256, IntOp.andi (BitVec.setWidth 32 (BitVec.ofFin k : BitVec 8)) 15#32
      = BitVec.ofNat 32 (Cert.Mirror.lowNib (BitVec.ofFin k)).val := by decide +kernel
  pointwise [res_main_v77, res_main_v75]
  exact h (planes V0 p n b).toFin

theorem v79_apply (p : Fin 2) (n : Fin 32768) (b : Fin 768) :
    res_main_v79 V0 (ix3 p n b) = BitVec.ofNat 32 (Cert.Mirror.highNib (planes V0 p n b)).val := by
  have h : ∀ k : Fin 256, IntOp.shrsi .host (BitVec.setWidth 32 (BitVec.ofFin k : BitVec 8)) 4#32
      = BitVec.ofNat 32 (Cert.Mirror.highNib (BitVec.ofFin k)).val := by decide +kernel
  pointwise [res_main_v79, res_main_v75]
  exact h (planes V0 p n b).toFin

/-- An entry of eight, named by three bits. -/
def tree (T : Fin 8 → BitVec 32) (m : BitVec 32) : BitVec 32 :=
  Scalar.select (IntOp.cmpi .ne (IntOp.andi m 4#32) 0#32)
    (Scalar.select (IntOp.cmpi .ne (IntOp.andi m 2#32) 0#32)
      (Scalar.select (IntOp.cmpi .ne (IntOp.andi m 1#32) 0#32) (T 7) (T 6))
      (Scalar.select (IntOp.cmpi .ne (IntOp.andi m 1#32) 0#32) (T 5) (T 4)))
    (Scalar.select (IntOp.cmpi .ne (IntOp.andi m 2#32) 0#32)
      (Scalar.select (IntOp.cmpi .ne (IntOp.andi m 1#32) 0#32) (T 3) (T 2))
      (Scalar.select (IntOp.cmpi .ne (IntOp.andi m 1#32) 0#32) (T 1) (T 0)))

theorem tree_eq (c : Fin 8 → ℤ) (T : Fin 8 → BitVec 32) (hT : ∀ e, T e = BitVec.ofInt 32 (c e)) (n : Fin 16) (x : BitVec 32)
    (hx : x = BitVec.ofNat 32 n.val) :
    Scalar.select (IntOp.cmpi .slt x 8#32) (tree T (IntOp.minsi x (IntOp.subi (15#32) x))) (-tree T (IntOp.minsi x (IntOp.subi (15#32) x)))
      = BitVec.ofInt 32 (Cert.Mirror.look c n) := by
  subst hx
  have e : Scalar.select (IntOp.cmpi .slt (BitVec.ofNat 32 n.val) 8#32) (tree T (IntOp.minsi (BitVec.ofNat 32 n.val) (IntOp.subi (15#32) (BitVec.ofNat 32 n.val)))) (-tree T (IntOp.minsi (BitVec.ofNat 32 n.val) (IntOp.subi (15#32) (BitVec.ofNat 32 n.val))))
      = if h : n.val < 8 then T ⟨n.val, h⟩ else -T ⟨15 - n.val, by omega⟩ := by
    fin_cases n <;> rfl
  rw [e, Cert.Mirror.look]
  split_ifs
  · exact hT _
  · rw [hT, BitVec.ofInt_neg]

theorem vals_apply (t : Fin 5) (p : Fin 2) (n : Fin 32768) (b : Fin 768) :
    vals V0 (ix4 t p n b) = BitVec.ofInt 32 (Cert.Mirror.byteSum (acts V0) (planes V0) t n p b) := by
  rw [Cert.Mirror.byteSum, BitVec.ofInt_add,
    ← tree_eq _ (fun e => res_main_v81 V0 (ix3 t b e)) (fun e => v81_apply V0 t b e) _ _ (v77_apply V0 p n b),
    ← tree_eq _ (fun e => res_main_v133 V0 (ix3 t b e)) (fun e => v133_apply V0 t b e) _ _ (v79_apply V0 p n b)]
  pointwise [vals, res_main_v127, res_main_v179, res_main_v116, res_main_v112, res_main_v164, res_main_v168, res_main_v84, res_main_v136]
  rfl

theorem byteOf_eq (g : Fin 48) (r : Fin 16) (h : g.val * 16 + r.val < 768) : (⟨g.val * 16 + r.val, h⟩ : Fin 768) = Cert.Mirror.byteOf g r :=
  Fin.ext (congrArg (· + r.val) (mul_comm _ _))

theorem shift_eq : ∀ p : Fin 2, IntOp.shli .host (1#32) (BitVec.ofNat 32 p.val) = BitVec.ofInt 32 (2 ^ p.val) := by decide +kernel

theorem accs_read (t : Fin 5) (n : Fin 32768) (g : Fin 48) :
    accs V0 (ix3 t n g) = Finset.univ.fold IntOp.addi 0#32 fun p : Fin 2 =>
      IntOp.muli (Finset.univ.fold IntOp.addi 0#32 fun r : Fin 16 => vals V0 (ix4 t p n ⟨g.val * 16 + r.val, by omega⟩))
        (IntOp.shli .host (1#32) (BitVec.ofNat 32 p.val)) := by
  pointwise [accs]

theorem accs_apply (t : Fin 5) (n : Fin 32768) (g : Fin 48) :
    accs V0 (ix3 t n g) = BitVec.ofInt 32 (Cert.Mirror.accInt (acts V0) (planes V0) t n g) := by
  have hin : ∀ p : Fin 2, (Finset.univ.fold IntOp.addi 0#32 fun r : Fin 16 => vals V0 (ix4 t p n ⟨g.val * 16 + r.val, by omega⟩))
      = BitVec.ofInt 32 (∑ r : Fin 16, Cert.Mirror.byteSum (acts V0) (planes V0) t n p (Cert.Mirror.byteOf g r)) := fun p =>
    fold_ofInt Finset.univ _ _ fun r _ => by rw [byteOf_eq, vals_apply]
  rw [accs_read, Cert.Mirror.accInt]
  refine fold_ofInt Finset.univ _ (fun p : Fin 2 => (∑ r : Fin 16, Cert.Mirror.byteSum (acts V0) (planes V0) t n p (Cert.Mirror.byteOf g r)) * 2 ^ p.val) fun p _ => ?_
  rw [hin p, shift_eq p, BitVec.ofInt_mul]
  rfl

theorem zeros_apply (t : Fin 5) (g : Fin 48) :
    zeros V0 (ix2 t g) = BitVec.ofInt 32 (Cert.Mirror.zeroInt (acts V0) t g) := by
  pointwise [zeros]
  rw [Cert.Mirror.zeroInt, BitVec.ofInt_neg]
  refine congrArg (-·) (fold_ofInt Finset.univ _ _ fun r _ => ?_)
  rw [← v72_int]
  exact congrArg (fun l => (res_main_v72 V0 (ix3 t l 0)).signExtend 32) (Fin.ext (congrArg (· + r.val) (mul_comm _ _)))

theorem toInt_ofInt_small (z : ℤ) (h : |z| ≤ 20000) : (BitVec.ofInt 32 z).toInt = z := by
  rw [abs_le] at h
  rw [BitVec.toInt_ofInt]
  exact Int.bmod_eq_of_le (by omega) (by omega)

theorem ofBits_half : Ideal.ofBits .f32 1056964608#32 = ((1 / 2 : ℝ) : EReal) := by
  simp [Ideal.ofBits, Ideal.ieee, -EReal.coe_mul]; norm_num
theorem ofBits_three : Ideal.ofBits .f32 1077936128#32 = ((3 : ℝ) : EReal) := by
  simp [Ideal.ofBits, Ideal.ieee, -EReal.coe_mul]; norm_num
theorem ofBits_two : Ideal.ofBits .f32 1073741824#32 = ((2 : ℝ) : EReal) := by
  simp [Ideal.ofBits, Ideal.ieee, -EReal.coe_mul]; norm_num

theorem accs_real (t : Fin 5) (n : Fin 32768) (g : Fin 48) :
    FloatOps.sitofp (F := Ideal) .f32 (accs V0 (ix3 t n g)) = ((Cert.Mirror.accInt (acts V0) (planes V0) t n g : ℝ) : EReal) := by
  rw [accs_apply]
  exact congrArg (fun z : ℤ => ((z : ℝ) : EReal)) (toInt_ofInt_small _ (Cert.Mirror.accInt_le _ _ _ _ _))

theorem zeros_real (t : Fin 5) (g : Fin 48) :
    FloatOps.sitofp (F := Ideal) .f32 (zeros V0 (ix2 t g)) = ((Cert.Mirror.zeroInt (acts V0) t g : ℝ) : EReal) := by
  rw [zeros_apply]
  exact congrArg (fun z : ℤ => ((z : ℝ) : EReal)) (toInt_ofInt_small _ (Cert.Mirror.zeroInt_le _ _ _))

theorem product_apply (t : Fin 5) (n : Fin 32768) :
    product V0 (ix2 t n) = Cert.Mirror.result (acts V0) (planes V0) (wScale V0) (wZero V0) t n := by
  pointwise [product]
  simp only [accs_real, zeros_real, v64_apply, ofBits_half, ofBits_three, ofBits_two]
  rfl

end Cert.ReferenceIdeal.Hand

end
-- ==== Proof.Results.lean ====
/-
  The kernel's three results are the reference's, from equal arguments.
-/
module

public import proofs.«01_k».proof.Proof.BlockRead
public import proofs.«01_k».proof.Proof.YValue
public import proofs.«01_k».proof.Proof.RefY

@[expose] public section

set_option maxRecDepth 16384

noncomputable section

namespace Cert.Results

open Idealize.ShloMosaic Idealize.ShloMosaic.TcCoe
open Cert.KernelIdeal.Hand (xIn yAll yOut codesOut scalesOut column actsOf)
open Cert.ReferenceIdeal.Hand (product acts planes wScale wZero)

variable (m : (ℓ : Loc Cert.KernelIdeal.nD Cert.KernelIdeal.τ Cert.KernelIdeal.sig) → Buf (Elt Ideal) ℓ)
  (c : Dev Cert.KernelIdeal.nD) (V0 : Valuation Cert.ReferenceIdeal.τ Cert.ReferenceIdeal.sig (Elt Ideal))

/-- The reference is given what the kernel is given. -/
structure Agree : Prop where
  arg0 : V0 (Proc.devRef .tc Cert.ReferenceIdeal.main_arg0) = m ((c : Thread Cert.KernelIdeal.nD Cert.KernelIdeal.τ).loc Cert.KernelIdeal.main_arg0)
  arg1 : V0 (Proc.devRef .tc Cert.ReferenceIdeal.main_arg1) = m ((c : Thread Cert.KernelIdeal.nD Cert.KernelIdeal.τ).loc Cert.KernelIdeal.main_arg1)
  arg2 : V0 (Proc.devRef .tc Cert.ReferenceIdeal.main_arg2) = m ((c : Thread Cert.KernelIdeal.nD Cert.KernelIdeal.τ).loc Cert.KernelIdeal.main_arg2)
  arg3 : V0 (Proc.devRef .tc Cert.ReferenceIdeal.main_arg3) = m ((c : Thread Cert.KernelIdeal.nD Cert.KernelIdeal.τ).loc Cert.KernelIdeal.main_arg3)

variable {m c V0} (h : Agree m c V0)
include h

theorem acts_eq : actsOf (xIn m c) = acts V0 := by
  funext t k
  exact (Cert.KernelIdeal.Hand.input_read m c t k).trans (congrFun h.arg0 _).symm

theorem product_at (t : Fin 5) (n : Fin 32768) : yAll m c (ix2 t n) = product V0 (ix2 t n) := by
  rw [Cert.ReferenceIdeal.Hand.product_apply, ← acts_eq h]
  have hn : n.val < 32768 := n.isLt
  refine Cert.KernelIdeal.Hand.yBlock_apply (xIn m c) t _ _ _ (⟨n.val % 1024, Nat.mod_lt _ (by decide)⟩ : Fin 1024) (planes V0) (wScale V0) (wZero V0) n ?_ ?_ ?_
  · intro b k
    refine (Cert.KernelIdeal.Hand.planes_read m c _ b _ k).trans ?_
    refine Eq.trans ?_ (congrFun h.arg1 (ix3 b n k)).symm
    exact congrArg _ (congrArg (fun z : Fin 32768 => ix3 b z k) (Fin.ext (Nat.div_add_mod' n.val 1024)))
  · intro g
    refine (Cert.KernelIdeal.Hand.scale_read m c _ g _).trans ?_
    refine Eq.trans ?_ (congrFun h.arg2 (ix2 n g)).symm
    exact congrArg _ (congrArg (fun z : Fin 32768 => ix2 z g) (Fin.ext (Nat.div_add_mod' n.val 1024)))
  · intro g
    refine (Cert.KernelIdeal.Hand.zero_read m c _ g _).trans ?_
    refine Eq.trans ?_ (congrFun h.arg3 (ix2 n g)).symm
    exact congrArg _ (congrArg (fun z : Fin 32768 => ix2 z g) (Fin.ext (Nat.div_add_mod' n.val 1024)))

theorem product_eq : yAll m c = product V0 := by
  funext i
  have e : i = ix2 (i 0 : Fin 5) (i 1 : Fin 32768) := by funext a; fin_cases a <;> rfl
  rw [e]
  exact product_at h _ _

/-- The codes as the reference leaves them. -/
def codes (V0 : Valuation Cert.ReferenceIdeal.τ Cert.ReferenceIdeal.sig (Elt Ideal)) : IVec Cert.ReferenceIdeal.S5x8x1536 8 :=
  transpose Cert.ReferenceIdeal.S5x8x1536 [0, 2, 1] (Cert.ReferenceIdeal.Value.res_main_v72 V0)
    Cert.ReferenceIdeal.Gen.transposes_S5x1536x8_S5x8x1536_0_2_1

/-- The scales as the reference leaves them. -/
def scales (V0 : Valuation Cert.ReferenceIdeal.τ Cert.ReferenceIdeal.sig (Elt Ideal)) : FVec Ideal Cert.ReferenceIdeal.S5x1x48 .f32 :=
  shapeCast Cert.ReferenceIdeal.S5x1x48 (Cert.ReferenceIdeal.Value.res_main_v64 V0) Cert.ReferenceIdeal.Gen.shapeCasts_S5x48_S5x1x48

theorem codes_at (t : Fin 5) (e : Fin 8) (l : Fin 1536) : codesOut (xIn m c) (ix3 t e l) = codes V0 (ix3 t e l) := by
  rw [Cert.KernelIdeal.Hand.codesOut_apply, acts_eq h, ← Cert.ReferenceIdeal.Hand.v72_apply]
  unfold codes
  generalize Cert.ReferenceIdeal.Value.res_main_v72 V0 = v
  pointwise

theorem codes_eq : codesOut (xIn m c) = codes V0 := by
  funext i
  have e : i = ix3 (i 0 : Fin 5) (i 1 : Fin 8) (i 2 : Fin 1536) := by funext a; fin_cases a <;> rfl
  rw [e]
  exact codes_at h _ _ _

theorem scales_at (t : Fin 5) (g : Fin 48) : scalesOut (xIn m c) (ix3 t (0 : Fin 1) g) = scales V0 (ix3 t (0 : Fin 1) g) := by
  rw [Cert.KernelIdeal.Hand.scalesOut_apply, acts_eq h, ← Cert.ReferenceIdeal.Hand.v64_apply]
  unfold scales
  generalize Cert.ReferenceIdeal.Value.res_main_v64 V0 = v
  pointwise

theorem scales_eq : scalesOut (xIn m c) = scales V0 := by
  funext i
  have e : i = ix3 (i 0 : Fin 5) (0 : Fin 1) (i 2 : Fin 48) := by
    funext a; fin_cases a
    · rfl
    · exact Subsingleton.elim (α := Fin 1) _ _
    · rfl
  rw [e]
  exact scales_at h _ _

end Cert.Results

end
-- ==== Proof.lean ====
/-
  The certificate: the three programs run and leave their arguments alone, and at the ideal instance the kernel's
  three results are the reference's.
-/
module

public import proofs.«01_k».proof.Defs
public import proofs.«01_k».proof.Proof.Same
public import proofs.«01_k».proof.Proof.Gen.ReferenceIdeal.Run
public import proofs.«01_k».proof.Proof.Results
public import Idealize.ShloMosaic.Lib.Claim

@[expose] public section

set_option maxRecDepth 16384

noncomputable section

namespace Cert.Proof

open Idealize.ShloMosaic Idealize.ShloMosaic.TcCoe Idealize.SL.Sem

variable (m : (ℓ : Loc Cert.KernelIdeal.nD Cert.KernelIdeal.τ Cert.KernelIdeal.sig) → Buf (Elt Ideal) ℓ) (ρ : Dev Cert.KernelIdeal.nD → PrngReg)

/-- What the kernel leaves in its three result arrays. -/
theorem kernel_results : θ_run (Cert.KernelIdeal.defs (F := Ideal)) (onTc (τ := Cert.KernelIdeal.τ) (Cert.KernelIdeal.main (F := Ideal))) ⟨m, fun _ => 0, ρ⟩
    (fun r => ∀ c : Dev Cert.KernelIdeal.nD,
      r.2.mem ((c.tc : Thread Cert.KernelIdeal.nD Cert.KernelIdeal.τ).loc Cert.KernelIdeal.main_v3_0) = Cert.KernelIdeal.Hand.yAll m c
      ∧ r.2.mem ((c.tc : Thread Cert.KernelIdeal.nD Cert.KernelIdeal.τ).loc Cert.KernelIdeal.main_v3_1) = Cert.KernelIdeal.Hand.codesOut (Cert.KernelIdeal.Hand.xIn m c)
      ∧ r.2.mem ((c.tc : Thread Cert.KernelIdeal.nD Cert.KernelIdeal.τ).loc Cert.KernelIdeal.main_v3_2) = Cert.KernelIdeal.Hand.scalesOut (Cert.KernelIdeal.Hand.xIn m c)) :=
  (θ_run Cert.KernelIdeal.defs _ _).mono (fun r h c =>
    ⟨(Pipeline.FramePost.out_eq h c 4).trans (Cert.KernelIdeal.Hand.y_final m c),
     (Pipeline.FramePost.out_eq h c 5).trans (Cert.KernelIdeal.Hand.codes_final m c),
     (Pipeline.FramePost.out_eq h c 6).trans (Cert.KernelIdeal.Hand.scales_final m c)⟩)
    (Cert.KernelIdeal.Hand.run_main m ρ)

theorem algebraic : Cert.algebraic_KernelIdeal_ReferenceIdeal := by
  intro m g m' g' _ hargs
  refine ⟨fun c => Cert.KernelIdeal.Hand.yAll m c, fun c => Cert.KernelIdeal.Hand.codesOut (Cert.KernelIdeal.Hand.xIn m c),
    fun c => Cert.KernelIdeal.Hand.scalesOut (Cert.KernelIdeal.Hand.xIn m c), ?_, ?_⟩
  · exact (θ_run Cert.KernelIdeal.defs _ _).mono (fun r h c => ⟨(h.1 c).1, (h.1 c).2.1, (h.1 c).2.2, h.2 c⟩)
      (Idealize.ShloMosaic.θ_run_and (kernel_results m g) (Cert.KernelIdeal.Hand.unchanged m g))
  · refine (θ_run Cert.ReferenceIdeal.defs _ _).mono (fun r h c => ?_) (Cert.ReferenceIdeal.Value.run (F := Ideal) m' g')
    have agree : Cert.Results.Agree m c (StableHlo.launchContents m' c) := ⟨(hargs c).1, (hargs c).2.1, (hargs c).2.2.1, (hargs c).2.2.2⟩
    obtain ⟨h0, h1, h2, h3⟩ := h c
    exact ⟨h0.trans (Cert.Results.product_eq agree).symm, h1.trans (Cert.Results.codes_eq agree).symm,
      h2.trans (Cert.Results.scales_eq agree).symm, h3⟩

theorem claim : Cert.Claim := ⟨Cert.Kernel.Gen.facts, Cert.KernelIdeal.Gen.facts, Cert.ReferenceIdeal.Gen.facts,
  fun m ρ _ => Cert.Kernel.Hand.frame m ρ,
  fun m ρ _ => Cert.KernelIdeal.Hand.frame m ρ,
  fun m ρ _ => (θ_run Cert.ReferenceIdeal.defs _ _).mono
    (fun r h => ⟨fun c => (h c).2.2.2, Idealize.ShloMosaic.sem_eq_zero_of_no_sems (by decide) r.2⟩)
    (Cert.ReferenceIdeal.Value.run (F := Ideal) m ρ),
  trivial,
  algebraic⟩

end Cert.Proof

end
